-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_head [hPre_in_head : Cert.Pre_in_head.Facts] (m : (ℓ : Loc Cert.KernelIdeal.nD Cert.KernelIdeal.τ Cert.KernelIdeal.sig) → Buf (Elt Ideal) ℓ) : Prop :=
  ∀ c : Dev Cert.KernelIdeal.nD,
    (Cert.Pre_in_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_head [hPre_in_head : Cert.Pre_in_head.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_head [hKernelIdeal : Cert.KernelIdeal.Facts] [hPre_in_head : Cert.Pre_in_head.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_head m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_head [hReferenceIdeal : Cert.ReferenceIdeal.Facts] [hPre_in_head : Cert.Pre_in_head.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_head m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_head [hKernelIdeal : Cert.KernelIdeal.Facts] [hReferenceIdeal : Cert.ReferenceIdeal.Facts] [hPre_in_head : Cert.Pre_in_head.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_head m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_head : Cert.Pre_in_head.Facts),
    quiescent_Kernel (hKernel := hKernel)
    ∧ quiescent_KernelIdeal (hKernelIdeal := hKernelIdeal)
    ∧ quiescent_KernelIdeal_pre_in_head (hKernelIdeal := hKernelIdeal) (hPre_in_head := hPre_in_head)
    ∧ quiescent_ReferenceIdeal (hReferenceIdeal := hReferenceIdeal)
    ∧ quiescent_ReferenceIdeal_pre_in_head (hReferenceIdeal := hReferenceIdeal) (hPre_in_head := hPre_in_head)
    ∧ preserves_Kernel_KernelIdeal
    ∧ algebraic_KernelIdeal_ReferenceIdeal_pre_in_head (hKernelIdeal := hKernelIdeal) (hReferenceIdeal := hReferenceIdeal) (hPre_in_head := hPre_in_head)
-- ==== Pre_in_head.lean ====
abbrev S16384x3 : Shape := ⟨2, ![16384, 3]⟩
abbrev S1000000x64 : Shape := ⟨2, ![1000000, 64]⟩
abbrev S1000x64 : Shape := ⟨2, ![1000, 64]⟩
abbrev S_ : Shape := ⟨0, ![]⟩

class Facts : Prop where
  bcast_S_S16384x3 : S_.BroadcastsInDim S16384x3 (![] : Fin 0 → Fin S16384x3.rank)

variable [Facts]

def fn {F : FTy → Type} [FloatOps F] (main_arg0 : IVec S16384x3 32) (main_arg1 : IVec S16384x3 32) (main_arg2 : FVec F S1000000x64 .f32) (main_arg3 : FVec F S1000x64 .f32) (main_arg4 : FVec F S1000x64 .f32) : IVec S16384x3 1 :=
  let main_c : IVec S_ 32 := constantI S_ 32 0#32
  let main_v0 : IVec S16384x3 32 := broadcastInDim S16384x3 ![] bcast_S_S16384x3 main_c
  let main_v1 : IVec S16384x3 1 := cmpi .sge main_arg0 main_v0
  let main_c_0 : IVec S_ 32 := constantI S_ 32 1000#32
  let main_v2 : IVec S16384x3 32 := broadcastInDim S16384x3 ![] bcast_S_S16384x3 main_c_0
  let main_v3 : IVec S16384x3 1 := cmpi .slt main_arg0 main_v2
  let main_v4 : IVec S16384x3 1 := andi main_v1 main_v3
  let main_c_1 : IVec S_ 32 := constantI S_ 32 0#32
  let main_v5 : IVec S16384x3 32 := broadcastInDim S16384x3 ![] bcast_S_S16384x3 main_c_1
  let main_v6 : IVec S16384x3 1 := cmpi .sge main_arg1 main_v5
  let main_v7 : IVec S16384x3 1 := andi main_v4 main_v6
  let main_c_2 : IVec S_ 32 := constantI S_ 32 1000#32
  let main_v8 : IVec S16384x3 32 := broadcastInDim S16384x3 ![] bcast_S_S16384x3 main_c_2
  let main_v9 : IVec S16384x3 1 := cmpi .slt main_arg1 main_v8
  let main_v10 : IVec S16384x3 1 := andi main_v7 main_v9
  main_v10
-- ==== Kernel.lean ====
abbrev S16384x3 : Shape := ⟨2, ![16384, 3]⟩
abbrev S1000000x64 : Shape := ⟨2, ![1000000, 64]⟩
abbrev S1000x64 : Shape := ⟨2, ![1000, 64]⟩
abbrev S8x2048x3 : Shape := ⟨3, ![8, 2048, 3]⟩
abbrev S8x2048x1 : Shape := ⟨3, ![8, 2048, 1]⟩
abbrev S1x1 : Shape := ⟨2, ![1, 1]⟩
abbrev S1x2048x1 : Shape := ⟨3, ![1, 2048, 1]⟩
abbrev S5000x64 : Shape := ⟨2, ![5000, 64]⟩
abbrev S3 : Shape := ⟨1, ![3]⟩
abbrev S1 : Shape := ⟨1, ![1]⟩
abbrev S5000 : Shape := ⟨1, ![5000]⟩
abbrev S5000x1 : Shape := ⟨2, ![5000, 1]⟩
abbrev S1x5000x1 : Shape := ⟨3, ![1, 5000, 1]⟩
abbrev S1x1x1 : Shape := ⟨3, ![1, 1, 1]⟩
abbrev S1000 : Shape := ⟨1, ![1000]⟩
abbrev S1000x1 : Shape := ⟨2, ![1000, 1]⟩
abbrev S1x1000x1 : Shape := ⟨3, ![1, 1000, 1]⟩
abbrev S2048x1 : Shape := ⟨2, ![2048, 1]⟩
abbrev S2048x1000 : Shape := ⟨2, ![2048, 1000]⟩
abbrev S2048x64 : Shape := ⟨2, ![2048, 64]⟩
abbrev S2048 : Shape := ⟨1, ![2048]⟩
abbrev S_ : Shape := ⟨0, ![]⟩

abbrev nBuf : Space → Nat
  | .hbm => 15
  | .vmem => 24
  | .smem => 1
  | _ => 0

abbrev bufTy : (tb : Table) → Fin (tcTables nBuf tb) → BufTy
  | .hbm, ⟨0, _⟩ => ⟨S16384x3, .i32⟩
  | .hbm, ⟨1, _⟩ => ⟨S16384x3, .i32⟩
  | .hbm, ⟨2, _⟩ => ⟨S1000000x64, .f32⟩
  | .hbm, ⟨3, _⟩ => ⟨S1000x64, .f32⟩
  | .hbm, ⟨4, _⟩ => ⟨S1000x64, .f32⟩
  | .hbm, ⟨5, _⟩ => ⟨S8x2048x3, .i32⟩
  | .hbm, ⟨6, _⟩ => ⟨S8x2048x1, .i32⟩
  | .hbm, ⟨7, _⟩ => ⟨S8x2048x1, .i32⟩
  | .hbm, ⟨8, _⟩ => ⟨S8x2048x1, .i32⟩
  | .hbm, ⟨9, _⟩ => ⟨S8x2048x3, .i32⟩
  | .hbm, ⟨10, _⟩ => ⟨S8x2048x1, .i32⟩
  | .hbm, ⟨11, _⟩ => ⟨S8x2048x1, .i32⟩
  | .hbm, ⟨12, _⟩ => ⟨S8x2048x1, .i32⟩
  | .hbm, ⟨13, _⟩ => ⟨S1x1, .f32⟩
  | .hbm, ⟨14, _⟩ => ⟨S_, .f32⟩
  | .local _ .vmem, ⟨0, _⟩ => ⟨S1x2048x1, .i32⟩
  | .local _ .vmem, ⟨1, _⟩ => ⟨S1x2048x1, .i32⟩
  | .local _ .vmem, ⟨2, _⟩ => ⟨S1x2048x1, .i32⟩
  | .local _ .vmem, ⟨3, _⟩ => ⟨S1x2048x1, .i32⟩
  | .local _ .vmem, ⟨4, _⟩ => ⟨S1x2048x1, .i32⟩
  | .local _ .vmem, ⟨5, _⟩ => ⟨S1x2048x1, .i32⟩
  | .local _ .vmem, ⟨6, _⟩ => ⟨S1x2048x1, .i32⟩
  | .local _ .vmem, ⟨7, _⟩ => ⟨S1x2048x1, .i32⟩
  | .local _ .vmem, ⟨8, _⟩ => ⟨S1x2048x1, .i32⟩
  | .local _ .vmem, ⟨9, _⟩ => ⟨S1x2048x1, .i32⟩
  | .local _ .vmem, ⟨10, _⟩ => ⟨S1x2048x1, .i32⟩
  | .local _ .vmem, ⟨11, _⟩ => ⟨S1x2048x1, .i32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S1000x64, .f32⟩
  | .local _ .vmem, ⟨21, _⟩ => ⟨S1000x64, .f32⟩
  | .local _ .vmem, ⟨22, _⟩ => ⟨S1000x64, .f32⟩
  | .local _ .vmem, ⟨23, _⟩ => ⟨S1x1, .f32⟩
  | .local _ .smem, ⟨0, _⟩ => ⟨S3, .f32⟩
  | _, _ => ⟨S16384x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![50], ![false]⟩

def k0_cond4 (i : grid0.Coords) : BitVec 1 :=
  let arg0 : BitVec 32 := BitVec.ofNat 32 (i 0).val
  let c49_i32 : BitVec 32 := 49#32
  let v68 : BitVec 1 := Scalar.cmpi .eq arg0 c49_i32
  let v69 : BitVec 32 := Scalar.extui v68
  let c0_i32_28 : BitVec 32 := 0#32
  let v70 : BitVec 1 := Scalar.cmpi .ne v69 c0_i32_28
  v70

def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c50_i32 : BitVec 32 := 50#32
  let v0 : BitVec 32 := Scalar.addi arg0 c50_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c100_i32 : BitVec 32 := 100#32
  let v0 : BitVec 32 := Scalar.addi arg0 c100_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c150_i32 : BitVec 32 := 150#32
  let v0 : BitVec 32 := Scalar.addi arg0 c150_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1000x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1000x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1000x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S16384x3 : Shape := ⟨2, ![16384, 3]⟩
abbrev S1000000x64 : Shape := ⟨2, ![1000000, 64]⟩
abbrev S1000x64 : Shape := ⟨2, ![1000, 64]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x64 : Shape := ⟨2, ![16384, 64]⟩
abbrev S1000000 : Shape := ⟨1, ![1000000]⟩
abbrev S1000 : Shape := ⟨1, ![1000]⟩

abbrev nBuf : Space → Nat
  | .hbm => 298
  | .vmem => 0
  | .smem => 0
  | _ => 0

abbrev hbmTy0_0 (i : Nat) : BufTy := match i % 128 with
  | 0 => ⟨S16384x3, .i32⟩
  | 1 => ⟨S16384x3, .i32⟩
  | 2 => ⟨S1000000x64, .f32⟩
  | 3 => ⟨S1000x64, .f32⟩
  | 4 => ⟨S1000x64, .f32⟩
  | 5 => ⟨S16384x1, .i32⟩
  | 6 => ⟨S16384, .i32⟩
  | 7 => ⟨S_, .i32⟩
  | 8 => ⟨S16384, .i32⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S1, .i32⟩
  | 16 => ⟨S_, .i32⟩
  | 17 => ⟨S16384x1, .i32⟩
  | 18 => ⟨S16384x1, .i1⟩
  | 19 => ⟨S1x1, .i32⟩
  | 20 => ⟨S16384x1, .i32⟩
  | 21 => ⟨S16384x1, .i1⟩
  | 22 => ⟨S16384x1, .i1⟩
  | 23 => ⟨S_, .i1⟩
  | 24 => ⟨S16384, .i1⟩
  | 25 => ⟨S16384x64, .f32⟩
  | 26 => ⟨S16384x64, .i1⟩
  | 27 => ⟨S_, .f32⟩
  | 28 => ⟨S16384x64, .f32⟩
  | 29 => ⟨S16384x64, .f32⟩
  | 30 => ⟨S16384x1, .i32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S1, .i32⟩
  | 41 => ⟨S_, .i32⟩
  | 42 => ⟨S16384x1, .i32⟩
  | 43 => ⟨S16384x1, .i1⟩
  | 44 => ⟨S1x1, .i32⟩
  | 45 => ⟨S16384x1, .i32⟩
  | 46 => ⟨S16384x1, .i1⟩
  | 47 => ⟨S16384x1, .i1⟩
  | 48 => ⟨S_, .i1⟩
  | 49 => ⟨S16384, .i1⟩
  | 50 => ⟨S16384x64, .f32⟩
  | 51 => ⟨S16384x64, .i1⟩
  | 52 => ⟨S_, .f32⟩
  | 53 => ⟨S16384x64, .f32⟩
  | 54 => ⟨S16384x64, .f32⟩
  | 55 => ⟨S16384x1, .i32⟩
  | 56 => ⟨S16384, .i32⟩
  | 57 => ⟨S_, .i32⟩
  | 58 => ⟨S16384, .i32⟩
  | 59 => ⟨S16384, .i1⟩
  | 60 => ⟨S_, .i32⟩
  | 61 => ⟨S16384, .i32⟩
  | 62 => ⟨S16384, .i32⟩
  | 63 => ⟨S16384, .i32⟩
  | 64 => ⟨S16384x1, .i32⟩
  | 65 => ⟨S1, .i32⟩
  | 66 => ⟨S_, .i32⟩
  | 67 => ⟨S16384x1, .i32⟩
  | 68 => ⟨S16384x1, .i1⟩
  | 69 => ⟨S1x1, .i32⟩
  | 70 => ⟨S16384x1, .i32⟩
  | 71 => ⟨S16384x1, .i1⟩
  | 72 => ⟨S16384x1, .i1⟩
  | 73 => ⟨S_, .i1⟩
  | 74 => ⟨S16384, .i1⟩
  | 75 => ⟨S16384x64, .f32⟩
  | 76 => ⟨S16384x64, .i1⟩
  | 77 => ⟨S_, .f32⟩
  | 78 => ⟨S16384x64, .f32⟩
  | 79 => ⟨S16384x64, .f32⟩
  | 80 => ⟨S16384x1, .i32⟩
  | 81 => ⟨S16384, .i32⟩
  | 82 => ⟨S_, .i32⟩
  | 83 => ⟨S16384, .i32⟩
  | 84 => ⟨S16384, .i1⟩
  | 85 => ⟨S_, .i32⟩
  | 86 => ⟨S16384, .i32⟩
  | 87 => ⟨S16384, .i32⟩
  | 88 => ⟨S16384, .i32⟩
  | 89 => ⟨S16384x1, .i32⟩
  | 90 => ⟨S1, .i32⟩
  | 91 => ⟨S_, .i32⟩
  | 92 => ⟨S16384x1, .i32⟩
  | 93 => ⟨S16384x1, .i1⟩
  | 94 => ⟨S1x1, .i32⟩
  | 95 => ⟨S16384x1, .i32⟩
  | 96 => ⟨S16384x1, .i1⟩
  | 97 => ⟨S16384x1, .i1⟩
  | 98 => ⟨S_, .i1⟩
  | 99 => ⟨S16384, .i1⟩
  | 100 => ⟨S16384x64, .f32⟩
  | 101 => ⟨S16384x64, .i1⟩
  | 102 => ⟨S_, .f32⟩
  | 103 => ⟨S16384x64, .f32⟩
  | 104 => ⟨S16384x64, .f32⟩
  | 105 => ⟨S16384x64, .f32⟩
  | 106 => ⟨S_, .f32⟩
  | 107 => ⟨S16384, .f32⟩
  | 108 => ⟨S16384x1, .f32⟩
  | 109 => ⟨S16384x64, .f32⟩
  | 110 => ⟨S16384x64, .f32⟩
  | 111 => ⟨S16384x64, .f32⟩
  | 112 => ⟨S16384x64, .f32⟩
  | 113 => ⟨S_, .f32⟩
  | 114 => ⟨S16384, .f32⟩
  | 115 => ⟨S16384x1, .f32⟩
  | 116 => ⟨S16384x64, .f32⟩
  | 117 => ⟨S16384x64, .f32⟩
  | 118 => ⟨S16384x64, .f32⟩
  | 119 => ⟨S16384x64, .f32⟩
  | 120 => ⟨S16384x64, .f32⟩
  | 121 => ⟨S_, .f32⟩
  | 122 => ⟨S16384x64, .f32⟩
  | 123 => ⟨S16384x64, .f32⟩
  | 124 => ⟨S16384x64, .f32⟩
  | 125 => ⟨S_, .f32⟩
  | 126 => ⟨S16384, .f32⟩
  | 127 => ⟨S16384, .f32⟩
  | _ => ⟨S16384x3, .i32⟩

abbrev hbmTy0_1 (i : Nat) : BufTy := match i % 128 with
  | 0 => ⟨S16384x1, .i32⟩
  | 1 => ⟨S16384, .i32⟩
  | 2 => ⟨S_, .i32⟩
  | 3 => ⟨S16384, .i32⟩
  | 4 => ⟨S16384, .i1⟩
  | 5 => ⟨S_, .i32⟩
  | 6 => ⟨S16384, .i32⟩
  | 7 => ⟨S16384, .i32⟩
  | 8 => ⟨S16384, .i32⟩
  | 9 => ⟨S16384x1, .i32⟩
  | 10 => ⟨S1, .i32⟩
  | 11 => ⟨S_, .i32⟩
  | 12 => ⟨S16384x1, .i32⟩
  | 13 => ⟨S16384x1, .i1⟩
  | 14 => ⟨S1x1, .i32⟩
  | 15 => ⟨S16384x1, .i32⟩
  | 16 => ⟨S16384x1, .i1⟩
  | 17 => ⟨S16384x1, .i1⟩
  | 18 => ⟨S_, .i1⟩
  | 19 => ⟨S16384, .i1⟩
  | 20 => ⟨S16384x64, .f32⟩
  | 21 => ⟨S16384x64, .i1⟩
  | 22 => ⟨S_, .f32⟩
  | 23 => ⟨S16384x64, .f32⟩
  | 24 => ⟨S16384x64, .f32⟩
  | 25 => ⟨S16384x1, .i32⟩
  | 26 => ⟨S16384, .i32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S1, .i32⟩
  | 36 => ⟨S_, .i32⟩
  | 37 => ⟨S16384x1, .i32⟩
  | 38 => ⟨S16384x1, .i1⟩
  | 39 => ⟨S1x1, .i32⟩
  | 40 => ⟨S16384x1, .i32⟩
  | 41 => ⟨S16384x1, .i1⟩
  | 42 => ⟨S16384x1, .i1⟩
  | 43 => ⟨S_, .i1⟩
  | 44 => ⟨S16384, .i1⟩
  | 45 => ⟨S16384x64, .f32⟩
  | 46 => ⟨S16384x64, .i1⟩
  | 47 => ⟨S_, .f32⟩
  | 48 => ⟨S16384x64, .f32⟩
  | 49 => ⟨S16384x64, .f32⟩
  | 50 => ⟨S16384x1, .i32⟩
  | 51 => ⟨S16384, .i32⟩
  | 52 => ⟨S_, .i32⟩
  | 53 => ⟨S16384, .i32⟩
  | 54 => ⟨S16384, .i1⟩
  | 55 => ⟨S_, .i32⟩
  | 56 => ⟨S16384, .i32⟩
  | 57 => ⟨S16384, .i32⟩
  | 58 => ⟨S16384, .i32⟩
  | 59 => ⟨S16384x1, .i32⟩
  | 60 => ⟨S1, .i32⟩
  | 61 => ⟨S_, .i32⟩
  | 62 => ⟨S16384x1, .i32⟩
  | 63 => ⟨S16384x1, .i1⟩
  | 64 => ⟨S1x1, .i32⟩
  | 65 => ⟨S16384x1, .i32⟩
  | 66 => ⟨S16384x1, .i1⟩
  | 67 => ⟨S16384x1, .i1⟩
  | 68 => ⟨S_, .i1⟩
  | 69 => ⟨S16384, .i1⟩
  | 70 => ⟨S16384x64, .f32⟩
  | 71 => ⟨S16384x64, .i1⟩
  | 72 => ⟨S_, .f32⟩
  | 73 => ⟨S16384x64, .f32⟩
  | 74 => ⟨S16384x64, .f32⟩
  | 75 => ⟨S16384x1, .i32⟩
  | 76 => ⟨S16384, .i32⟩
  | 77 => ⟨S_, .i32⟩
  | 78 => ⟨S16384, .i32⟩
  | 79 => ⟨S16384, .i1⟩
  | 80 => ⟨S_, .i32⟩
  | 81 => ⟨S16384, .i32⟩
  | 82 => ⟨S16384, .i32⟩
  | 83 => ⟨S16384, .i32⟩
  | 84 => ⟨S16384x1, .i32⟩
  | 85 => ⟨S1, .i32⟩
  | 86 => ⟨S_, .i32⟩
  | 87 => ⟨S16384x1, .i32⟩
  | 88 => ⟨S16384x1, .i1⟩
  | 89 => ⟨S1x1, .i32⟩
  | 90 => ⟨S16384x1, .i32⟩
  | 91 => ⟨S16384x1, .i1⟩
  | 92 => ⟨S16384x1, .i1⟩
  | 93 => ⟨S_, .i1⟩
  | 94 => ⟨S16384, .i1⟩
  | 95 => ⟨S16384x64, .f32⟩
  | 96 => ⟨S16384x64, .i1⟩
  | 97 => ⟨S_, .f32⟩
  | 98 => ⟨S16384x64, .f32⟩
  | 99 => ⟨S16384x64, .f32⟩
  | 100 => ⟨S16384x64, .f32⟩
  | 101 => ⟨S_, .f32⟩
  | 102 => ⟨S16384, .f32⟩
  | 103 => ⟨S16384x1, .f32⟩
  | 104 => ⟨S16384x64, .f32⟩
  | 105 => ⟨S16384x64, .f32⟩
  | 106 => ⟨S16384x64, .f32⟩
  | 107 => ⟨S16384x64, .f32⟩
  | 108 => ⟨S_, .f32⟩
  | 109 => ⟨S16384, .f32⟩
  | 110 => ⟨S16384x1, .f32⟩
  | 111 => ⟨S16384x64, .f32⟩
  | 112 => ⟨S16384x64, .f32⟩
  | 113 => ⟨S16384x64, .f32⟩
  | 114 => ⟨S16384x64, .f32⟩
  | 115 => ⟨S16384x64, .f32⟩
  | 116 => ⟨S_, .f32⟩
  | 117 => ⟨S16384x64, .f32⟩
  | 118 => ⟨S16384x64, .f32⟩
  | 119 => ⟨S16384x64, .f32⟩
  | 120 => ⟨S_, .f32⟩
  | 121 => ⟨S16384, .f32⟩
  | 122 => ⟨S16384, .f32⟩
  | 123 => ⟨S16384, .f32⟩
  | 124 => ⟨S_, .f32⟩
  | 125 => ⟨S16384, .f32⟩
  | 126 => ⟨S16384, .f32⟩
  | 127 => ⟨S_, .f32⟩
  | _ => ⟨S16384x3, .i32⟩

abbrev hbmTy0_2 (i : Nat) : BufTy := match i % 128 with
  | 0 => ⟨S16384, .f32⟩
  | 1 => ⟨S16384, .f32⟩
  | 2 => ⟨S_, .f32⟩
  | 3 => ⟨S_, .f32⟩
  | 4 => ⟨S1000000x64, .f32⟩
  | 5 => ⟨S_, .f32⟩
  | 6 => ⟨S1000000, .f32⟩
  | 7 => ⟨S1000000, .f32⟩
  | 8 => ⟨S_, .f32⟩
  | 9 => ⟨S1000000, .f32⟩
  | 10 => ⟨S1000000, .f32⟩
  | 11 => ⟨S_, .f32⟩
  | 12 => ⟨S1000000, .f32⟩
  | 13 => ⟨S1000000, .f32⟩
  | 14 => ⟨S_, .f32⟩
  | 15 => ⟨S_, .f32⟩
  | 16 => ⟨S1000x64, .f32⟩
  | 17 => ⟨S_, .f32⟩
  | 18 => ⟨S1000, .f32⟩
  | 19 => ⟨S1000, .f32⟩
  | 20 => ⟨S1000x64, .f32⟩
  | 21 => ⟨S_, .f32⟩
  | 22 => ⟨S1000, .f32⟩
  | 23 => ⟨S1000, .f32⟩
  | 24 => ⟨S_, .f32⟩
  | 25 => ⟨S1000, .f32⟩
  | 26 => ⟨S1000, .f32⟩
  | 27 => ⟨S_, .f32⟩
  | 28 => ⟨S1000, .f32⟩
  | 29 => ⟨S1000, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | _ => ⟨S16384x3, .i32⟩

abbrev hbmTy (i : Nat) : BufTy := match i / 128 with
  | 0 => hbmTy0_0 i
  | 1 => hbmTy0_1 i
  | 2 => hbmTy0_2 i
  | _ => ⟨S16384x3, .i32⟩

abbrev bufTy : (tb : Table) → Fin (tcTables nBuf tb) → BufTy
  | .hbm, ⟨i, _⟩ => hbmTy i
  | _, _ => ⟨S16384x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v8 : Ref sig .tc := ⟨.hbm, 79, rfl⟩
abbrev main_v9 : Ref sig .tc := ⟨.hbm, 80, rfl⟩
abbrev main_v10 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_call3_cst : Ref sig .tc := ⟨.hbm, 102, rfl⟩
abbrev main_call3_v15 : Ref sig .tc := ⟨.hbm, 103, rfl⟩
abbrev main_v11 : Ref sig .tc := ⟨.hbm, 104, rfl⟩
abbrev main_v12 : Ref sig .tc := ⟨.hbm, 105, rfl⟩
abbrev main_cst : Ref sig .tc := ⟨.hbm, 106, rfl⟩
abbrev main_v13 : Ref sig .tc := ⟨.hbm, 107, rfl⟩
abbrev main_v14 : Ref sig .tc := ⟨.hbm, 108, rfl⟩
abbrev main_v15 : Ref sig .tc := ⟨.hbm, 109, rfl⟩
abbrev main_v16 : Ref sig .tc := ⟨.hbm, 110, rfl⟩
abbrev main_v17 : Ref sig .tc := ⟨.hbm, 111, rfl⟩
abbrev main_v18 : Ref sig .tc := ⟨.hbm, 112, rfl⟩
abbrev main_cst_0 : Ref sig .tc := ⟨.hbm, 113, rfl⟩
abbrev main_v19 : Ref sig .tc := ⟨.hbm, 114, rfl⟩
abbrev main_v20 : Ref sig .tc := ⟨.hbm, 115, rfl⟩
abbrev main_v21 : Ref sig .tc := ⟨.hbm, 116, rfl⟩
abbrev main_v22 : Ref sig .tc := ⟨.hbm, 117, rfl⟩
abbrev main_v23 : Ref sig .tc := ⟨.hbm, 118, rfl⟩
abbrev main_v24 : Ref sig .tc := ⟨.hbm, 119, rfl⟩
abbrev main_v25 : Ref sig .tc := ⟨.hbm, 120, rfl⟩
abbrev main_cst_1 : Ref sig .tc := ⟨.hbm, 121, rfl⟩
abbrev main_v26 : Ref sig .tc := ⟨.hbm, 122, rfl⟩
abbrev main_v27 : Ref sig .tc := ⟨.hbm, 123, rfl⟩
abbrev main_v28 : Ref sig .tc := ⟨.hbm, 124, rfl⟩
abbrev main_cst_2 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev main_call4_c : Ref sig .tc := ⟨.hbm, 130, rfl⟩
abbrev main_call4_v0 : Ref sig .tc := ⟨.hbm, 131, rfl⟩
abbrev main_call4_v1 : Ref sig .tc := ⟨.hbm, 132, rfl⟩
abbrev main_call4_c_0 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_call4_v5 : Ref sig .tc := ⟨.hbm, 137, rfl⟩
abbrev main_call4_c_1 : Ref sig .tc := ⟨.hbm, 138, rfl⟩
abbrev main_call4_c_2 : Ref sig .tc := ⟨.hbm, 139, rfl⟩
abbrev main_call4_v6 : Ref sig .tc := ⟨.hbm, 140, rfl⟩
abbrev main_call4_v7 : Ref sig .tc := ⟨.hbm, 141, rfl⟩
abbrev main_call4_v8 : Ref sig .tc := ⟨.hbm, 142, rfl⟩
abbrev main_call4_v9 : Ref sig .tc := ⟨.hbm, 143, rfl⟩
abbrev main_call4_v10 : Ref sig .tc := ⟨.hbm, 144, rfl⟩
abbrev main_call4_v11 : Ref sig .tc := ⟨.hbm, 145, rfl⟩
abbrev main_call4_c_3 : Ref sig .tc := ⟨.hbm, 146, rfl⟩
abbrev main_call4_v12 : Ref sig .tc := ⟨.hbm, 147, rfl⟩
abbrev main_call4_v13 : Ref sig .tc := ⟨.hbm, 148, rfl⟩
abbrev main_call4_v14 : Ref sig .tc := ⟨.hbm, 149, rfl⟩
abbrev main_call4_cst : Ref sig .tc := ⟨.hbm, 150, rfl⟩
abbrev main_call4_v15 : Ref sig .tc := ⟨.hbm, 151, rfl⟩
abbrev main_v33 : Ref sig .tc := ⟨.hbm, 152, rfl⟩
abbrev main_v34 : Ref sig .tc := ⟨.hbm, 153, rfl⟩
abbrev main_v35 : Ref sig .tc := ⟨.hbm, 154, rfl⟩
abbrev main_call5_c : Ref sig .tc := ⟨.hbm, 155, rfl⟩
abbrev main_call5_v0 : Ref sig .tc := ⟨.hbm, 156, rfl⟩
abbrev main_call5_v1 : Ref sig .tc := ⟨.hbm, 157, rfl⟩
abbrev main_call5_c_0 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_call5_v5 : Ref sig .tc := ⟨.hbm, 162, rfl⟩
abbrev main_call5_c_1 : Ref sig .tc := ⟨.hbm, 163, rfl⟩
abbrev main_call5_c_2 : Ref sig .tc := ⟨.hbm, 164, rfl⟩
abbrev main_call5_v6 : Ref sig .tc := ⟨.hbm, 165, rfl⟩
abbrev main_call5_v7 : Ref sig .tc := ⟨.hbm, 166, rfl⟩
abbrev main_call5_v8 : Ref sig .tc := ⟨.hbm, 167, rfl⟩
abbrev main_call5_v9 : Ref sig .tc := ⟨.hbm, 168, rfl⟩
abbrev main_call5_v10 : Ref sig .tc := ⟨.hbm, 169, rfl⟩
abbrev main_call5_v11 : Ref sig .tc := ⟨.hbm, 170, rfl⟩
abbrev main_call5_c_3 : Ref sig .tc := ⟨.hbm, 171, rfl⟩
abbrev main_call5_v12 : Ref sig .tc := ⟨.hbm, 172, rfl⟩
abbrev main_call5_v13 : Ref sig .tc := ⟨.hbm, 173, rfl⟩
abbrev main_call5_v14 : Ref sig .tc := ⟨.hbm, 174, rfl⟩
abbrev main_call5_cst : Ref sig .tc := ⟨.hbm, 175, rfl⟩
abbrev main_call5_v15 : Ref sig .tc := ⟨.hbm, 176, rfl⟩
abbrev main_v36 : Ref sig .tc := ⟨.hbm, 177, rfl⟩
abbrev main_v37 : Ref sig .tc := ⟨.hbm, 178, rfl⟩
abbrev main_v38 : Ref sig .tc := ⟨.hbm, 179, rfl⟩
abbrev main_call6_c : Ref sig .tc := ⟨.hbm, 180, rfl⟩
abbrev main_call6_v0 : Ref sig .tc := ⟨.hbm, 181, rfl⟩
abbrev main_call6_v1 : Ref sig .tc := ⟨.hbm, 182, rfl⟩
abbrev main_call6_c_0 : Ref sig .tc := ⟨.hbm, 183, rfl⟩
abbrev main_call6_v2 : Ref sig .tc := ⟨.hbm, 184, rfl⟩
abbrev main_call6_v3 : Ref sig .tc := ⟨.hbm, 185, rfl⟩
abbrev main_call6_v4 : Ref sig .tc := ⟨.hbm, 186, rfl⟩
abbrev main_call6_v5 : Ref sig .tc := ⟨.hbm, 187, rfl⟩
abbrev main_call6_c_1 : Ref sig .tc := ⟨.hbm, 188, rfl⟩
abbrev main_call6_c_2 : Ref sig .tc := ⟨.hbm, 189, rfl⟩
abbrev main_call6_v6 : Ref sig .tc := ⟨.hbm, 190, rfl⟩
abbrev main_call6_v7 : Ref sig .tc := ⟨.hbm, 191, rfl⟩
abbrev main_call6_v8 : Ref sig .tc := ⟨.hbm, 192, rfl⟩
abbrev main_call6_v9 : Ref sig .tc := ⟨.hbm, 193, rfl⟩
abbrev main_call6_v10 : Ref sig .tc := ⟨.hbm, 194, rfl⟩
abbrev main_call6_v11 : Ref sig .tc := ⟨.hbm, 195, rfl⟩
abbrev main_call6_c_3 : Ref sig .tc := ⟨.hbm, 196, rfl⟩
abbrev main_call6_v12 : Ref sig .tc := ⟨.hbm, 197, rfl⟩
abbrev main_call6_v13 : Ref sig .tc := ⟨.hbm, 198, rfl⟩
abbrev main_call6_v14 : Ref sig .tc := ⟨.hbm, 199, rfl⟩
abbrev main_call6_cst : Ref sig .tc := ⟨.hbm, 200, rfl⟩
abbrev main_call6_v15 : Ref sig .tc := ⟨.hbm, 201, rfl⟩
abbrev main_v39 : Ref sig .tc := ⟨.hbm, 202, rfl⟩
abbrev main_v40 : Ref sig .tc := ⟨.hbm, 203, rfl⟩
abbrev main_v41 : Ref sig .tc := ⟨.hbm, 204, rfl⟩
abbrev main_call7_c : Ref sig .tc := ⟨.hbm, 205, rfl⟩
abbrev main_call7_v0 : Ref sig .tc := ⟨.hbm, 206, rfl⟩
abbrev main_call7_v1 : Ref sig .tc := ⟨.hbm, 207, rfl⟩
abbrev main_call7_c_0 : Ref sig .tc := ⟨.hbm, 208, rfl⟩
abbrev main_call7_v2 : Ref sig .tc := ⟨.hbm, 209, rfl⟩
abbrev main_call7_v3 : Ref sig .tc := ⟨.hbm, 210, rfl⟩
abbrev main_call7_v4 : Ref sig .tc := ⟨.hbm, 211, rfl⟩
abbrev main_call7_v5 : Ref sig .tc := ⟨.hbm, 212, rfl⟩
abbrev main_call7_c_1 : Ref sig .tc := ⟨.hbm, 213, rfl⟩
abbrev main_call7_c_2 : Ref sig .tc := ⟨.hbm, 214, rfl⟩
abbrev main_call7_v6 : Ref sig .tc := ⟨.hbm, 215, rfl⟩
abbrev main_call7_v7 : Ref sig .tc := ⟨.hbm, 216, rfl⟩
abbrev main_call7_v8 : Ref sig .tc := ⟨.hbm, 217, rfl⟩
abbrev main_call7_v9 : Ref sig .tc := ⟨.hbm, 218, rfl⟩
abbrev main_call7_v10 : Ref sig .tc := ⟨.hbm, 219, rfl⟩
abbrev main_call7_v11 : Ref sig .tc := ⟨.hbm, 220, rfl⟩
abbrev main_call7_c_3 : Ref sig .tc := ⟨.hbm, 221, rfl⟩
abbrev main_call7_v12 : Ref sig .tc := ⟨.hbm, 222, rfl⟩
abbrev main_call7_v13 : Ref sig .tc := ⟨.hbm, 223, rfl⟩
abbrev main_call7_v14 : Ref sig .tc := ⟨.hbm, 224, rfl⟩
abbrev main_call7_cst : Ref sig .tc := ⟨.hbm, 225, rfl⟩
abbrev main_call7_v15 : Ref sig .tc := ⟨.hbm, 226, rfl⟩
abbrev main_v42 : Ref sig .tc := ⟨.hbm, 227, rfl⟩
abbrev main_v43 : Ref sig .tc := ⟨.hbm, 228, rfl⟩
abbrev main_cst_3 : Ref sig .tc := ⟨.hbm, 229, rfl⟩
abbrev main_v44 : Ref sig .tc := ⟨.hbm, 230, rfl⟩
abbrev main_v45 : Ref sig .tc := ⟨.hbm, 231, rfl⟩
abbrev main_v46 : Ref sig .tc := ⟨.hbm, 232, rfl⟩
abbrev main_v47 : Ref sig .tc := ⟨.hbm, 233, rfl⟩
abbrev main_v48 : Ref sig .tc := ⟨.hbm, 234, rfl⟩
abbrev main_v49 : Ref sig .tc := ⟨.hbm, 235, rfl⟩
abbrev main_cst_4 : Ref sig .tc := ⟨.hbm, 236, rfl⟩
abbrev main_v50 : Ref sig .tc := ⟨.hbm, 237, rfl⟩
abbrev main_v51 : Ref sig .tc := ⟨.hbm, 238, rfl⟩
abbrev main_v52 : Ref sig .tc := ⟨.hbm, 239, rfl⟩
abbrev main_v53 : Ref sig .tc := ⟨.hbm, 240, rfl⟩
abbrev main_v54 : Ref sig .tc := ⟨.hbm, 241, rfl⟩
abbrev main_v55 : Ref sig .tc := ⟨.hbm, 242, rfl⟩
abbrev main_v56 : Ref sig .tc := ⟨.hbm, 243, rfl⟩
abbrev main_cst_5 : Ref sig .tc := ⟨.hbm, 244, rfl⟩
abbrev main_v57 : Ref sig .tc := ⟨.hbm, 245, rfl⟩
abbrev main_v58 : Ref sig .tc := ⟨.hbm, 246, rfl⟩
abbrev main_v59 : Ref sig .tc := ⟨.hbm, 247, rfl⟩
abbrev main_cst_6 : Ref sig .tc := ⟨.hbm, 248, rfl⟩
abbrev main_v60 : Ref sig .tc := ⟨.hbm, 249, rfl⟩
abbrev main_v61 : Ref sig .tc := ⟨.hbm, 250, rfl⟩
abbrev main_v62 : Ref sig .tc := ⟨.hbm, 251, rfl⟩
abbrev main_cst_7 : Ref sig .tc := ⟨.hbm, 252, rfl⟩
abbrev main_v63 : Ref sig .tc := ⟨.hbm, 253, rfl⟩
abbrev main_v64 : Ref sig .tc := ⟨.hbm, 254, rfl⟩
abbrev main_call8_cst : Ref sig .tc := ⟨.hbm, 255, rfl⟩
abbrev main_call8_v0 : Ref sig .tc := ⟨.hbm, 256, rfl⟩
abbrev main_v65 : Ref sig .tc := ⟨.hbm, 257, rfl⟩
abbrev main_cst_8 : Ref sig .tc := ⟨.hbm, 258, rfl⟩
abbrev main_v66 : Ref sig .tc := ⟨.hbm, 259, rfl⟩
abbrev main_v67 : Ref sig .tc := ⟨.hbm, 260, rfl⟩
abbrev main_cst_9 : Ref sig .tc := ⟨.hbm, 261, rfl⟩
abbrev main_v68 : Ref sig .tc := ⟨.hbm, 262, rfl⟩
abbrev main_v69 : Ref sig .tc := ⟨.hbm, 263, rfl⟩
abbrev main_cst_10 : Ref sig .tc := ⟨.hbm, 264, rfl⟩
abbrev main_v70 : Ref sig .tc := ⟨.hbm, 265, rfl⟩
abbrev main_v71 : Ref sig .tc := ⟨.hbm, 266, rfl⟩
abbrev main_call9_cst : Ref sig .tc := ⟨.hbm, 267, rfl⟩
abbrev main_call9_v0 : Ref sig .tc := ⟨.hbm, 268, rfl⟩
abbrev main_v72 : Ref sig .tc := ⟨.hbm, 269, rfl⟩
abbrev main_cst_11 : Ref sig .tc := ⟨.hbm, 270, rfl⟩
abbrev main_v73 : Ref sig .tc := ⟨.hbm, 271, rfl⟩
abbrev main_v74 : Ref sig .tc := ⟨.hbm, 272, rfl⟩
abbrev main_cst_12 : Ref sig .tc := ⟨.hbm, 273, rfl⟩
abbrev main_v75 : Ref sig .tc := ⟨.hbm, 274, rfl⟩
abbrev main_v76 : Ref sig .tc := ⟨.hbm, 275, rfl⟩
abbrev main_v77 : Ref sig .tc := ⟨.hbm, 276, rfl⟩
abbrev main_cst_13 : Ref sig .tc := ⟨.hbm, 277, rfl⟩
abbrev main_v78 : Ref sig .tc := ⟨.hbm, 278, rfl⟩
abbrev main_v79 : Ref sig .tc := ⟨.hbm, 279, rfl⟩
abbrev main_cst_14 : Ref sig .tc := ⟨.hbm, 280, rfl⟩
abbrev main_v80 : Ref sig .tc := ⟨.hbm, 281, rfl⟩
abbrev main_v81 : Ref sig .tc := ⟨.hbm, 282, rfl⟩
abbrev main_call10_cst : Ref sig .tc := ⟨.hbm, 283, rfl⟩
abbrev main_call10_v0 : Ref sig .tc := ⟨.hbm, 284, rfl⟩
abbrev main_v82 : Ref sig .tc := ⟨.hbm, 285, rfl⟩
abbrev main_cst_15 : Ref sig .tc := ⟨.hbm, 286, rfl⟩
abbrev main_v83 : Ref sig .tc := ⟨.hbm, 287, rfl⟩
abbrev main_cst_16 : Ref sig .tc := ⟨.hbm, 288, rfl⟩
abbrev main_v84 : Ref sig .tc := ⟨.hbm, 289, rfl⟩
abbrev main_cst_17 : Ref sig .tc := ⟨.hbm, 290, rfl⟩
abbrev main_v85 : Ref sig .tc := ⟨.hbm, 291, rfl⟩
abbrev main_cst_18 : Ref sig .tc := ⟨.hbm, 292, rfl⟩
abbrev main_v86 : Ref sig .tc := ⟨.hbm, 293, rfl⟩
abbrev main_v87 : Ref sig .tc := ⟨.hbm, 294, rfl⟩
abbrev main_cst_19 : Ref sig .tc := ⟨.hbm, 295, rfl⟩
abbrev main_v88 : Ref sig .tc := ⟨.hbm, 296, rfl⟩
abbrev main_v89 : Ref sig .tc := ⟨.hbm, 297, rfl⟩

abbrev nD : Nat := 1
abbrev τ : Topo := Topo.v7x

variable {F : FTy → Type} [FloatOps F]
-- ==== Proof.RefFrame.lean ====
/- The reference's frame: it ends with its five arguments as they were and with every semaphore counter at zero. -/
module

public import proofs.«01_k».proof.Proof.Gen.ReferenceIdeal.Run
public import Idealize.ShloMosaic.PureOps.Ideal
public import Idealize.ShloMosaic.Lib.Quiescent

@[expose] public section

namespace Cert.Margin

open Idealize.ShloMosaic Idealize.SL.Sem

/-- From any contents the reference runs to its end, leaves its arguments unchanged, and has no counter that is not
    zero: it declares no semaphore at all. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run _ _ _).mono (fun r h => ⟨fun c => (h c).2, sem_eq_zero_of_no_sems (by decide) r.2⟩)
    (Cert.ReferenceIdeal.Value.run m ρ)

end Cert.Margin

end
-- ==== Proof.Steps.lean ====
module

public import proofs.«01_k».proof.Proof.Gen.KernelIdeal.Frame
public import Idealize.ShloMosaic.Lib.Pipeline.ValueKit
public import Idealize.ShloMosaic.Lib.Pipeline.ReadBack
public import Idealize.ShloMosaic.Lib.CellWrites
public import Idealize.ShloMosaic.Lib.Pointwise

@[expose] public section

/-!
What one grid point leaves in the accumulator.

The accumulator has three cells. The first point sets all three, the points of the first eight add a block of
triples to cell 0, every point adds four entity blocks to cell 1, and the last point puts the three together.
Here each case of the body is read at each cell, in terms of the blocks that the point holds and of what the
point before left.
-/

set_option maxRecDepth 16384

namespace Cert.KernelIdeal.Margin

open Idealize Idealize.ShloMosaic Idealize.SL.Sem Cert.KernelIdeal Cert.KernelIdeal.Gen

variable {F : FTy → Type} [FloatOps F] (m : (ℓ : Loc nD τ sig) → Buf (Elt F) ℓ)

/-- Cell 1 after a point, from what it held before. -/
noncomputable def entAfter (c : Dev nD) (t : Fin cfg0.N) (acc : F .f32) : F .f32 :=
  k0_pay1 (k0_pay15 (iblk m c 6 t) (iblk m c 7 t)) (k0_pay16 (iblk m c 8 t)) (FloatOps.ofBits FTy.f32 0#32) (iblk m c 9 t) acc

/-- Cell 0 after one of the first eight points, from what it held before. -/
noncomputable def scoreAfter (c : Dev nD) (t : Fin cfg0.N) (acc : F .f32) : F .f32 :=
  k0_pay3 (k0_pay9 (iblk m c 5 t))
    (k0_pay11 (k0_pay5 (iblk m c 0 t)) (k0_pay6 (iblk m c 2 t)) (k0_pay7 (iblk m c 1 t)) (iblk m c 10 t)
      (iblk m c 11 t) (iblk m c 12 t) (iblk m c 10 t))
    (k0_pay12 (k0_pay8 (iblk m c 3 t)) (iblk m c 10 t)) (k0_pay13 (k0_pay10 (iblk m c 4 t)) (iblk m c 11 t))
    (k0_pay14 (k0_pay10 (iblk m c 4 t)) (iblk m c 12 t)) (iblk m c 10 t) acc

/-- Cell `k` of the accumulator after point `n`. -/
noncomputable def cell (c : Dev nD) (n : ℕ) (hn : n < cfg0.N) (k : Fin 3) : F .f32 := (outsAt0 m c n hn).2 (ix1 k)

theorem prev_lt (t : Fin cfg0.N) : t.val - 1 < cfg0.N := Nat.lt_of_le_of_lt (Nat.sub_le _ _) t.isLt

/-- The newest one-cell store decides a cell, or leaves it to the stores before. -/
theorem canon_cons_cell {Val : EltTy → Type} [∀ e, Nonempty (Val e)] {e : EltTy} {d off : Fin 1 → ℕ}
    (inb : ∀ a, off a + (![1] : Fin 1 → ℕ) a ≤ (⟨1, d⟩ : Shape).size a) (p : Val e)
    (L : List (View.Piece Val (⟨1, d⟩ : Shape) e)) (y : (⟨1, d⟩ : Shape).Idx) :
    View.canon ((⟨Rect.unit off ![1] inb, fun _ => p⟩ : View.Piece Val (⟨1, d⟩ : Shape) e) :: L) y
      = if (y 0).val = off 0 then p else View.canon L y := by
  by_cases h : (y 0).val = off 0
  · rw [if_pos h]
    have e : (Rect.unit (s := ⟨1, d⟩) off ![1] inb).emb (fun a => ⟨0, by fin_cases a; exact Nat.one_pos⟩) = y :=
      Rect.emb_eq_of_coords _ _ _ (Fin.forall_fin_one.mpr (by show (y 0).val = off 0 + 1 * 0; omega))
    rw [← e]
    exact View.canon_cons_emb _ _ _ _
  · rw [if_neg h]
    exact View.canon_cons_of_not_mem _ _ fun hy => h ((Rect.mem_set_cell (inb := inb)).1 hy)

theorem ld_cell (X : Vec F S3 .f32) (k : Fin 3) (off : Fin 1 → ℕ) (inb) (x) (h : off 0 = k.val) :
    View.ld (Val := Elt F) X (Rect.unit (s := S3) off ![1] inb) x = X (ix1 k) := by
  refine View.ld_unit_apply_of X off ![1] inb x (ix1 k) fun a => ?_
  fin_cases a
  have hx : ((x (0 : Fin 1) : Fin 1) : ℕ) = 0 := Nat.lt_one_iff.1 (x (0 : Fin 1)).isLt
  show k.val = off 0 + (x (0 : Fin 1)).val
  omega

theorem cell_C (c : Dev nD) (t : Fin cfg0.N) (h0 : ¬t.val % 50 = 0) (h2 : ¬t.val < 8) (h3 : ¬t.val % 50 = 49) (k : Fin 3) :
    cell m c t.val t.isLt k
      = if k.val = 1 then entAfter m c t (cell m c (t.val - 1) (prev_lt t) 1) else cell m c (t.val - 1) (prev_lt t) k := by
  unfold cell
  rw [outsAt0_C m c t h0 h0 h2 h3]
  frame_out
  simp only [read_unread_whole]
  rw [View.read_writes_cons_cell]
  simp only [View.writes_nil, read_unread_whole]
  rw [ld_cell _ 1 _ _ _ rfl]
  rfl

theorem cell_D (c : Dev nD) (t : Fin cfg0.N) (h0 : ¬t.val % 50 = 0) (h2 : ¬t.val < 8) (h3 : t.val % 50 = 49) (k : Fin 3) :
    cell m c t.val t.isLt k
      = if k.val = 1 then entAfter m c t (cell m c (t.val - 1) (prev_lt t) 1) else cell m c (t.val - 1) (prev_lt t) k := by
  unfold cell
  rw [outsAt0_D m c t h0 h0 h2 h3]
  frame_out
  simp only [read_unread_whole]
  rw [View.read_writes_cons_cell]
  simp only [View.writes_nil, read_unread_whole]
  rw [ld_cell _ 1 _ _ _ rfl]
  rfl

theorem cell_B (c : Dev nD) (t : Fin cfg0.N) (h0 : ¬t.val % 50 = 0) (h2 : t.val < 8) (h3 : ¬t.val % 50 = 49) (k : Fin 3) :
    cell m c t.val t.isLt k
      = if k.val = 0 then scoreAfter m c t (cell m c (t.val - 1) (prev_lt t) 0)
        else if k.val = 1 then entAfter m c t (cell m c (t.val - 1) (prev_lt t) 1) else cell m c (t.val - 1) (prev_lt t) k := by
  unfold cell
  rw [outsAt0_B m c t h0 h0 h2 h3]
  frame_out
  simp only [read_unread_whole]
  rw [View.read_writes_cons_cell, View.read_writes_cons_cell]
  simp only [View.writes_nil, read_unread_whole]
  rw [ld_cell _ 0 _ _ _ rfl, ld_cell _ 1 _ _ _ rfl]
  rfl

theorem cell_A (c : Dev nD) (t : Fin cfg0.N) (h0 : t.val % 50 = 0) (h2 : t.val < 8) (h3 : ¬t.val % 50 = 49) (k : Fin 3) :
    cell m c t.val t.isLt k
      = if k.val = 0 then scoreAfter m c t (FloatOps.ofBits FTy.f32 0#32)
        else if k.val = 1 then entAfter m c t (FloatOps.ofBits FTy.f32 0#32) else k0_pay2 (iblk m c 11 t) (iblk m c 12 t) := by
  unfold cell
  rw [outsAt0_A m c t h0 h0 h2 h3]
  frame_out
  rw [canon_cons_cell, canon_cons_cell, canon_cons_cell]
  fin_cases k <;> rfl

theorem out_D (c : Dev nD) (t : Fin cfg0.N) (h0 : ¬t.val % 50 = 0) (h2 : ¬t.val < 8) (h3 : t.val % 50 = 49) :
    (outsAt0 m c t.val t.isLt).1
      = k0_pay4 (cell m c (t.val - 1) (prev_lt t) 0) (entAfter m c t (cell m c (t.val - 1) (prev_lt t) 1))
          (cell m c (t.val - 1) (prev_lt t) 2) := by
  unfold cell
  rw [outsAt0_D m c t h0 h0 h2 h3]
  frame_out
  simp only [read_unread_whole]
  rw [ld_cell _ 0 _ _ _ rfl, ld_cell _ 1 _ _ _ rfl, ld_cell _ 2 _ _ _ rfl]
  rfl

end Cert.KernelIdeal.Margin

end
-- ==== Proof.Blocks.lean ====
module

public import proofs.«01_k».proof.Proof.Gen.KernelIdeal.Frame
public import Idealize.ShloMosaic.Lib.Pipeline.ValueKit
public import Idealize.ShloMosaic.Lib.Pointwise
public import Idealize.ShloMosaic.Lib.Claim

@[expose] public section

/-!
The blocks that a grid point holds, as parts of the arguments.
-/

set_option maxRecDepth 16384

namespace Cert.KernelIdeal.Margin

open Idealize Idealize.ShloMosaic Idealize.ShloMosaic.TcCoe Idealize.SL.Sem Cert.KernelIdeal Cert.KernelIdeal.Gen

variable {F : FTy → Type} [FloatOps F] (m : (ℓ : Loc nD τ sig) → Buf (Elt F) ℓ)

/-- The index maps of the entity streams: four runs of fifty blocks. -/
theorem idxE : ∀ t : Fin cfg0.N, (cfg0.win 6).index t = ![t.val, 0] ∧ (cfg0.win 7).index t = ![t.val + 50, 0]
    ∧ (cfg0.win 8).index t = ![t.val + 100, 0] ∧ (cfg0.win 9).index t = ![t.val + 150, 0] := by decide +kernel

/-- The tables held whole. -/
theorem idxT : ∀ t : Fin cfg0.N, (cfg0.win 10).index t = ![0, 0] ∧ (cfg0.win 11).index t = ![0, 0]
    ∧ (cfg0.win 12).index t = ![0, 0] := by decide +kernel

/-- The index columns, at the points that score. -/
theorem idxS : ∀ t : Fin cfg0.N, t.val < 8 → (cfg0.win 0).index t = ![t.val, 0, 0] ∧ (cfg0.win 1).index t = ![t.val, 0, 0]
    ∧ (cfg0.win 2).index t = ![t.val, 0, 0] ∧ (cfg0.win 3).index t = ![t.val, 0, 0]
    ∧ (cfg0.win 4).index t = ![t.val, 0, 0] ∧ (cfg0.win 5).index t = ![t.val, 0, 0] := by decide +kernel

theorem blk6 (c : Dev nD) (t : Fin cfg0.N) (i : Fin 5000) (k : Fin 64) (h : t.val * 5000 + i.val < 1000000) :
    iblk m c 6 t (ix2 i k) = m ((c.tc : Thread nD τ).loc main_arg2) (ix2 ⟨t.val * 5000 + i.val, h⟩ k) := by
  blk_ext [iblk, V, (idxE t).1]

theorem blk7 (c : Dev nD) (t : Fin cfg0.N) (i : Fin 5000) (k : Fin 64) (h : (t.val + 50) * 5000 + i.val < 1000000) :
    iblk m c 7 t (ix2 i k) = m ((c.tc : Thread nD τ).loc main_arg2) (ix2 ⟨(t.val + 50) * 5000 + i.val, h⟩ k) := by
  blk_ext [iblk, V, (idxE t).2.1]

theorem blk10 (c : Dev nD) (t : Fin cfg0.N) (i : Fin 1000) (k : Fin 64) (h : i.val < 1000000) :
    iblk m c 10 t (ix2 i k) = m ((c.tc : Thread nD τ).loc main_arg2) (ix2 ⟨i.val, h⟩ k) := by
  blk_ext [iblk, V, (idxT t).1]

theorem blk11 (c : Dev nD) (t : Fin cfg0.N) (i : Fin 1000) (k : Fin 64) :
    iblk m c 11 t (ix2 i k) = m ((c.tc : Thread nD τ).loc main_arg3) (ix2 i k) := by
  blk_ext [iblk, V, (idxT t).2.1]

theorem blk8 (c : Dev nD) (t : Fin cfg0.N) (i : Fin 5000) (k : Fin 64) (h : (t.val + 100) * 5000 + i.val < 1000000) :
    iblk m c 8 t (ix2 i k) = m ((c.tc : Thread nD τ).loc main_arg2) (ix2 ⟨(t.val + 100) * 5000 + i.val, h⟩ k) := by
  blk_ext [iblk, V, (idxE t).2.2.1]

theorem blk9 (c : Dev nD) (t : Fin cfg0.N) (i : Fin 5000) (k : Fin 64) (h : (t.val + 150) * 5000 + i.val < 1000000) :
    iblk m c 9 t (ix2 i k) = m ((c.tc : Thread nD τ).loc main_arg2) (ix2 ⟨(t.val + 150) * 5000 + i.val, h⟩ k) := by
  blk_ext [iblk, V, (idxE t).2.2.2]

theorem blk12 (c : Dev nD) (t : Fin cfg0.N) (i : Fin 1000) (k : Fin 64) :
    iblk m c 12 t (ix2 i k) = m ((c.tc : Thread nD τ).loc main_arg4) (ix2 i k) := by
  blk_ext [iblk, V, (idxT t).2.2]

/-- A column of the triples, cut from their eight groups: the entry of the triple itself. -/
theorem column (x : IVec S16384x3 32) (j : Fin 3) (t : Fin 8) (r : Fin 2048) (h : S8x2048x3.Slices ![0, 0, j.val] S8x2048x1)
    (hr : t.val * 2048 + r.val < 16384) :
    extractStridedSlice S8x2048x1 ![0, 0, j.val] (shapeCast S8x2048x3 x shapeCasts_S16384x3_S8x2048x3) h (ix3 t r 0)
      = x (ix2 ⟨t.val * 2048 + r.val, hr⟩ j) := by
  rw [extractStridedSlice_apply _ _ _ _ (ix3 t r j) (by intro a; fin_cases a <;> simp [ix3])]
  pointwise

theorem col0 (c : Dev nD) : V m c main_v1 = extractStridedSlice S8x2048x1 ![0, 0, 0]
    (shapeCast S8x2048x3 (m ((c.tc : Thread nD τ).loc main_arg0)) shapeCasts_S16384x3_S8x2048x3) slices_S8x2048x3_S8x2048x1_0_0_0 := by
  unfold V V0
  simp only [hostOps0, List.flatten_cons, List.flatten_nil, List.append_nil, StableHlo.after_cons, StableHlo.after_nil]
  repeat (first
    | rw [StableHlo.unary_result] | rw [StableHlo.reshape_result]
    | (rw [StableHlo.unary_result_ne]; rotate_left; decide)
    | (rw [StableHlo.reshape_result_ne]; rotate_left; decide))
  rfl

theorem blk0 (c : Dev nD) (t : Fin cfg0.N) (ht : t.val < 8) (r : Fin 2048) (h : t.val * 2048 + r.val < 16384) :
    iblk m c 0 t (ix3 0 r 0) = m ((c.tc : Thread nD τ).loc main_arg0) (ix2 ⟨t.val * 2048 + r.val, h⟩ 0) := by
  have e : iblk m c 0 t (ix3 0 r 0) = V m c main_v1 (ix3 ⟨t.val, ht⟩ r 0) := by
    blk_ext [iblk, (idxS t ht).1]
  rw [e, col0]
  exact column _ 0 ⟨t.val, ht⟩ r _ h

theorem col1 (c : Dev nD) : V m c main_v2 = extractStridedSlice S8x2048x1 ![0, 0, 1]
    (shapeCast S8x2048x3 (m ((c.tc : Thread nD τ).loc main_arg0)) shapeCasts_S16384x3_S8x2048x3) slices_S8x2048x3_S8x2048x1_0_0_1 := by
  unfold V V0
  simp only [hostOps0, List.flatten_cons, List.flatten_nil, List.append_nil, StableHlo.after_cons, StableHlo.after_nil]
  repeat (first
    | rw [StableHlo.unary_result] | rw [StableHlo.reshape_result]
    | (rw [StableHlo.unary_result_ne]; rotate_left; decide)
    | (rw [StableHlo.reshape_result_ne]; rotate_left; decide))
  rfl

theorem blk1 (c : Dev nD) (t : Fin cfg0.N) (ht : t.val < 8) (r : Fin 2048) (h : t.val * 2048 + r.val < 16384) :
    iblk m c 1 t (ix3 0 r 0) = m ((c.tc : Thread nD τ).loc main_arg0) (ix2 ⟨t.val * 2048 + r.val, h⟩ 1) := by
  have e : iblk m c 1 t (ix3 0 r 0) = V m c main_v2 (ix3 ⟨t.val, ht⟩ r 0) := by
    blk_ext [iblk, (idxS t ht).2.1]
  rw [e, col1]
  exact column _ 1 ⟨t.val, ht⟩ r _ h

theorem col2 (c : Dev nD) : V m c main_v3 = extractStridedSlice S8x2048x1 ![0, 0, 2]
    (shapeCast S8x2048x3 (m ((c.tc : Thread nD τ).loc main_arg0)) shapeCasts_S16384x3_S8x2048x3) slices_S8x2048x3_S8x2048x1_0_0_2 := by
  unfold V V0
  simp only [hostOps0, List.flatten_cons, List.flatten_nil, List.append_nil, StableHlo.after_cons, StableHlo.after_nil]
  repeat (first
    | rw [StableHlo.unary_result] | rw [StableHlo.reshape_result]
    | (rw [StableHlo.unary_result_ne]; rotate_left; decide)
    | (rw [StableHlo.reshape_result_ne]; rotate_left; decide))
  rfl

theorem blk2 (c : Dev nD) (t : Fin cfg0.N) (ht : t.val < 8) (r : Fin 2048) (h : t.val * 2048 + r.val < 16384) :
    iblk m c 2 t (ix3 0 r 0) = m ((c.tc : Thread nD τ).loc main_arg0) (ix2 ⟨t.val * 2048 + r.val, h⟩ 2) := by
  have e : iblk m c 2 t (ix3 0 r 0) = V m c main_v3 (ix3 ⟨t.val, ht⟩ r 0) := by
    blk_ext [iblk, (idxS t ht).2.2.1]
  rw [e, col2]
  exact column _ 2 ⟨t.val, ht⟩ r _ h

theorem col3 (c : Dev nD) : V m c main_v5 = extractStridedSlice S8x2048x1 ![0, 0, 0]
    (shapeCast S8x2048x3 (m ((c.tc : Thread nD τ).loc main_arg1)) shapeCasts_S16384x3_S8x2048x3) slices_S8x2048x3_S8x2048x1_0_0_0 := by
  unfold V V0
  simp only [hostOps0, List.flatten_cons, List.flatten_nil, List.append_nil, StableHlo.after_cons, StableHlo.after_nil]
  repeat (first
    | rw [StableHlo.unary_result] | rw [StableHlo.reshape_result]
    | (rw [StableHlo.unary_result_ne]; rotate_left; decide)
    | (rw [StableHlo.reshape_result_ne]; rotate_left; decide))
  rfl

theorem blk3 (c : Dev nD) (t : Fin cfg0.N) (ht : t.val < 8) (r : Fin 2048) (h : t.val * 2048 + r.val < 16384) :
    iblk m c 3 t (ix3 0 r 0) = m ((c.tc : Thread nD τ).loc main_arg1) (ix2 ⟨t.val * 2048 + r.val, h⟩ 0) := by
  have e : iblk m c 3 t (ix3 0 r 0) = V m c main_v5 (ix3 ⟨t.val, ht⟩ r 0) := by
    blk_ext [iblk, (idxS t ht).2.2.2.1]
  rw [e, col3]
  exact column _ 0 ⟨t.val, ht⟩ r _ h

theorem col4 (c : Dev nD) : V m c main_v6 = extractStridedSlice S8x2048x1 ![0, 0, 1]
    (shapeCast S8x2048x3 (m ((c.tc : Thread nD τ).loc main_arg1)) shapeCasts_S16384x3_S8x2048x3) slices_S8x2048x3_S8x2048x1_0_0_1 := by
  unfold V V0
  simp only [hostOps0, List.flatten_cons, List.flatten_nil, List.append_nil, StableHlo.after_cons, StableHlo.after_nil]
  repeat (first
    | rw [StableHlo.unary_result] | rw [StableHlo.reshape_result]
    | (rw [StableHlo.unary_result_ne]; rotate_left; decide)
    | (rw [StableHlo.reshape_result_ne]; rotate_left; decide))
  rfl

theorem blk4 (c : Dev nD) (t : Fin cfg0.N) (ht : t.val < 8) (r : Fin 2048) (h : t.val * 2048 + r.val < 16384) :
    iblk m c 4 t (ix3 0 r 0) = m ((c.tc : Thread nD τ).loc main_arg1) (ix2 ⟨t.val * 2048 + r.val, h⟩ 1) := by
  have e : iblk m c 4 t (ix3 0 r 0) = V m c main_v6 (ix3 ⟨t.val, ht⟩ r 0) := by
    blk_ext [iblk, (idxS t ht).2.2.2.2.1]
  rw [e, col4]
  exact column _ 1 ⟨t.val, ht⟩ r _ h

theorem col5 (c : Dev nD) : V m c main_v7 = extractStridedSlice S8x2048x1 ![0, 0, 2]
    (shapeCast S8x2048x3 (m ((c.tc : Thread nD τ).loc main_arg1)) shapeCasts_S16384x3_S8x2048x3) slices_S8x2048x3_S8x2048x1_0_0_2 := by
  unfold V V0
  simp only [hostOps0, List.flatten_cons, List.flatten_nil, List.append_nil, StableHlo.after_cons, StableHlo.after_nil]
  repeat (first
    | rw [StableHlo.unary_result] | rw [StableHlo.reshape_result]
    | (rw [StableHlo.unary_result_ne]; rotate_left; decide)
    | (rw [StableHlo.reshape_result_ne]; rotate_left; decide))
  rfl

theorem blk5 (c : Dev nD) (t : Fin cfg0.N) (ht : t.val < 8) (r : Fin 2048) (h : t.val * 2048 + r.val < 16384) :
    iblk m c 5 t (ix3 0 r 0) = m ((c.tc : Thread nD τ).loc main_arg1) (ix2 ⟨t.val * 2048 + r.val, h⟩ 2) := by
  have e : iblk m c 5 t (ix3 0 r 0) = V m c main_v7 (ix3 ⟨t.val, ht⟩ r 0) := by
    blk_ext [iblk, (idxS t ht).2.2.2.2.2]
  rw [e, col5]
  exact column _ 2 ⟨t.val, ht⟩ r _ h

end Cert.KernelIdeal.Margin

end
-- ==== Proof.Spec.lean ====
module

public import Idealize.ShloMosaic.Lib.Pipeline.ValueKit
public import Idealize.ShloMosaic.Lib.Pointwise

@[expose] public section

/-!
The loss as mathematics.

Both programs compute one number from five tables. This module names the pieces of that number over plain
functions of a row and a coordinate, so that the kernel's side and the reference's side can each be brought
to the same words.
-/

namespace Cert.Margin

open Idealize.ShloMosaic
open scoped BigOperators

/-- The small number which the distance adds to every coordinate and which the penalty on the relations
takes off, as the two programs spell it. -/
noncomputable abbrev tiny : EReal := Ideal.ofBits FTy.f32 897988541#32

/-- How far the length of a row exceeds one. -/
noncomputable def excess (v : Fin 64 → EReal) : EReal :=
  max (Ideal.sqrt (∑ k, v k * v k) - 1) 0

/-- How far a relation `r` is from lying in the plane with normal `w`. -/
noncomputable def tilt (w r : Fin 64 → EReal) : EReal :=
  max (Ideal.div (∑ k, w k * r k) (Ideal.sqrt (∑ k, r k * r k)) - tiny) 0

/-- A row with its part along `w` taken off. -/
noncomputable def proj (w h : Fin 64 → EReal) (k : Fin 64) : EReal :=
  h k - w k * ∑ j, h j * w j

/-- One coordinate of the difference between the translated head and the tail. -/
noncomputable def gap (h r w t : Fin 64 → EReal) (k : Fin 64) : EReal :=
  proj w h k + r k - proj w t k + tiny

/-- The score of a triple: the length of that difference. -/
noncomputable def score (h r w t : Fin 64 → EReal) : EReal :=
  Ideal.sqrt (∑ k, gap h r w t k * gap h r w t k)

/-- What a pair of scores adds to the margin loss. -/
noncomputable def hinge (p n : EReal) : EReal := max (p - n + 1) 0

/-- The three sums put together, as both programs do it. -/
noncomputable def total (a0 a1 a2 : EReal) : EReal :=
  Ideal.div a0 (Ideal.ofBits FTy.f32 0x46800000#32)
    + 1 * (Ideal.div a1 (Ideal.ofBits FTy.f32 0x49742400#32) + Ideal.div a2 (Ideal.ofBits FTy.f32 0x447A0000#32))

/-- Row `i` of a table. -/
def row {n : Nat} (T : (⟨2, ![n, 64]⟩ : Shape).Idx → EReal) (i : Fin n) (k : Fin 64) : EReal := T (ix2 i k)

/-- A row number read off a word, the first row where the word is too large. -/
def pick {n : Nat} (hn : 0 < n) (x : BitVec 32) : Fin n := if h : x.toNat < n then ⟨x.toNat, h⟩ else ⟨0, hn⟩

theorem pick_val {n : Nat} (hn : 0 < n) {x : BitVec 32} (h : x.toNat < n) : (pick hn x).val = x.toNat := by
  unfold pick; rw [dif_pos h]

end Cert.Margin

end
-- ==== Proof.Payload.lean ====
module

public import proofs.«01_k».proof.Proof.Gen.KernelIdeal.Skeleton
public import proofs.«01_k».proof.Proof.Spec

@[expose] public section

/-!
What the body stores, as mathematics.

Each value that one grid point stores into its accumulator is brought to the words of `Spec`.
-/

set_option maxRecDepth 16384

namespace Cert.KernelIdeal.Margin

open Idealize Idealize.ShloMosaic Cert.KernelIdeal Cert.KernelIdeal.Gen Cert.Margin
open scoped BigOperators

/-- The orthogonality penalty: one term for each relation. -/
theorem orth_pay (rel hyp : Vec Ideal S1000x64 .f32) :
    k0_pay2 (F := Ideal) rel hyp = ∑ i : Fin 1000, tilt (row hyp i) (row rel i) := by
  unfold k0_pay2
  pointwise
  refine Finset.sum_congr rfl fun i _ => ?_
  rw [Fin.sum_univ_one]
  rfl

/-- What four entity blocks add to the second cell. -/
theorem ent_pay (e0 e1 e2 e3 : Vec Ideal S5000x64 .f32) (acc : EReal) :
    k0_pay1 (F := Ideal) (k0_pay15 e0 e1) (k0_pay16 e2) (Scalar.ofBits .f32 0x00000000#32) e3 acc
      = acc + (((∑ i : Fin 5000, excess (row e0 i)) + (∑ i : Fin 5000, excess (row e1 i)))
          + (∑ i : Fin 5000, excess (row e2 i)) + (∑ i : Fin 5000, excess (row e3 i))) := by
  unfold k0_pay1 k0_pay15 k0_pay16
  pointwise
  simp only [Fin.sum_univ_one]
  rfl

/-- The last point's combination. -/
theorem fin_pay (a0 a1 a2 : EReal) (j) :
    k0_pay4 (F := Ideal) a0 a1 a2 j = total a0 a1 a2 := by
  unfold k0_pay4 total
  pointwise

/-- One entry of the comparison of a word with a lane number, as a float. -/
theorem hot (x : BitVec 32) (k : Fin 1000) :
    (FloatOps.sitofp (F := Ideal) FTy.f32 (BitVec.setWidth 32 (IntOp.cmpi CmpIPredicate.eq x (BitVec.ofNat 32 k.val))) : EReal)
      = if x.toNat = k.val then 1 else 0 := by
  have hk : k.val < 1000 := k.isLt
  have e : (x = BitVec.ofNat 32 k.val) ↔ x.toNat = k.val := by
    constructor
    · rintro rfl; rw [BitVec.toNat_ofNat]; omega
    · intro h; apply BitVec.eq_of_toNat_eq; rw [BitVec.toNat_ofNat]; omega
  show ((((BitVec.setWidth 32 (IntOp.cmpi CmpIPredicate.eq x (BitVec.ofNat 32 k.val))).toInt : ℤ) : ℝ) : EReal) = _
  by_cases h : x = BitVec.ofNat 32 k.val
  · rw [if_pos (e.1 h), h]
    simp [IntOp.cmpi]
  · rw [if_neg fun h' => h (e.2 h')]
    have hb : (x == BitVec.ofNat 32 k.val) = false := by simpa using h
    simp [IntOp.cmpi, hb]

/-- A row of comparisons times a table is the table's row at the word. -/
theorem hot_dot (x : BitVec 32) (hx : x.toNat < 1000) (f : Fin 1000 → EReal) :
    (∑ k : Fin 1000, (FloatOps.sitofp (F := Ideal) FTy.f32 (BitVec.setWidth 32 (IntOp.cmpi CmpIPredicate.eq x (BitVec.ofNat 32 k.val))) : EReal) * f k)
      = f (pick (by decide) x) := by
  rw [Finset.sum_eq_single (pick (by decide) x)]
  · rw [hot, if_pos (pick_val _ hx).symm, one_mul]
  · intro k _ hk
    rw [hot, if_neg, zero_mul]
    intro h
    exact hk (Fin.ext (by rw [pick_val _ hx]; exact h.symm))
  · intro h; exact absurd (Finset.mem_univ _) h

/-- The words of a column of indices all name one of the first thousand rows. -/
def InHead (x : Vec Ideal S1x2048x1 .i32) : Prop := ∀ r : Fin 2048, (x (ix3 0 r 0)).toNat < 1000

/-- A matrix of comparisons of a column of words with the lane numbers: its rows pick rows of a table. -/
def Picks (M : FVec Ideal S2048x1000 .f32) (x : Vec Ideal S1x2048x1 .i32) : Prop :=
  ∀ (T : Vec Ideal S1000x64 .f32) (r : Fin 2048) (c : Fin 64),
    (∑ k : Fin 1000, M (ix2 r k) * T (ix2 k c) : EReal) = row T (pick (by decide) (x (ix3 0 r 0))) c

theorem picks5 (x : Vec Ideal S1x2048x1 .i32) (hx : InHead x) : Picks (k0_pay5 (F := Ideal) x) x := by
  intro T r c
  refine Eq.trans (Finset.sum_congr rfl fun k _ => ?_) (hot_dot _ (hx r) fun k => T (ix2 k c))
  unfold k0_pay5
  pointwise

theorem picks6 (x : Vec Ideal S1x2048x1 .i32) (hx : InHead x) : Picks (k0_pay6 (F := Ideal) x) x := by
  intro T r c
  refine Eq.trans (Finset.sum_congr rfl fun k _ => ?_) (hot_dot _ (hx r) fun k => T (ix2 k c))
  unfold k0_pay6
  pointwise

theorem picks7 (x : Vec Ideal S1x2048x1 .i32) (hx : InHead x) : Picks (k0_pay7 (F := Ideal) x) x := by
  intro T r c
  refine Eq.trans (Finset.sum_congr rfl fun k _ => ?_) (hot_dot _ (hx r) fun k => T (ix2 k c))
  unfold k0_pay7
  pointwise

theorem picks8 (x : Vec Ideal S1x2048x1 .i32) (hx : InHead x) : Picks (k0_pay8 (F := Ideal) x) x := by
  intro T r c
  refine Eq.trans (Finset.sum_congr rfl fun k _ => ?_) (hot_dot _ (hx r) fun k => T (ix2 k c))
  unfold k0_pay8
  pointwise

theorem picks9 (x : Vec Ideal S1x2048x1 .i32) (hx : InHead x) : Picks (k0_pay9 (F := Ideal) x) x := by
  intro T r c
  refine Eq.trans (Finset.sum_congr rfl fun k _ => ?_) (hot_dot _ (hx r) fun k => T (ix2 k c))
  unfold k0_pay9
  pointwise

theorem picks10 (x : Vec Ideal S1x2048x1 .i32) (hx : InHead x) : Picks (k0_pay10 (F := Ideal) x) x := by
  intro T r c
  refine Eq.trans (Finset.sum_congr rfl fun k _ => ?_) (hot_dot _ (hx r) fun k => T (ix2 k c))
  unfold k0_pay10
  pointwise

/-- The scores of a block of triples, from the comparisons of its three index columns. -/
theorem pos_pay (Mh Mt Mr : FVec Ideal S2048x1000 .f32) (xh xt xr : Vec Ideal S1x2048x1 .i32)
    (hh : Picks Mh xh) (ht : Picks Mt xt) (hr : Picks Mr xr) (head rel hyp : Vec Ideal S1000x64 .f32) (r : Fin 2048) (o : Fin 1) :
    k0_pay11 (F := Ideal) Mh Mt Mr head rel hyp head (ix2 r o)
      = score (row head (pick (by decide) (xh (ix3 0 r 0)))) (row rel (pick (by decide) (xr (ix3 0 r 0))))
          (row hyp (pick (by decide) (xr (ix3 0 r 0)))) (row head (pick (by decide) (xt (ix3 0 r 0)))) := by
  unfold k0_pay11
  pointwise
  simp only [hh _ _ _, ht _ _ _, hr _ _ _]
  rfl

/-- What a block of pairs of triples adds to the first cell. -/
theorem score_pay (x0 x1 x2 x3 x4 x5 : Vec Ideal S1x2048x1 .i32) (h0 : InHead x0) (h1 : InHead x1) (h2 : InHead x2)
    (h3 : InHead x3) (h4 : InHead x4) (h5 : InHead x5) (head rel hyp : Vec Ideal S1000x64 .f32) (acc : EReal) :
    k0_pay3 (F := Ideal) (k0_pay9 x5) (k0_pay11 (k0_pay5 x0) (k0_pay6 x2) (k0_pay7 x1) head rel hyp head)
        (k0_pay12 (k0_pay8 x3) head) (k0_pay13 (k0_pay10 x4) rel) (k0_pay14 (k0_pay10 x4) hyp) head acc
      = acc + ∑ r : Fin 2048, hinge
          (score (row head (pick (by decide) (x0 (ix3 0 r 0)))) (row rel (pick (by decide) (x1 (ix3 0 r 0))))
            (row hyp (pick (by decide) (x1 (ix3 0 r 0)))) (row head (pick (by decide) (x2 (ix3 0 r 0)))))
          (score (row head (pick (by decide) (x3 (ix3 0 r 0)))) (row rel (pick (by decide) (x4 (ix3 0 r 0))))
            (row hyp (pick (by decide) (x4 (ix3 0 r 0)))) (row head (pick (by decide) (x5 (ix3 0 r 0))))) := by
  have e12 : ∀ (r : Fin 2048) (c : Fin 64), k0_pay12 (F := Ideal) (k0_pay8 x3) head (ix2 r c) = row head (pick (by decide) (x3 (ix3 0 r 0))) c := by
    intro r c
    unfold k0_pay12
    pointwise
    exact picks8 x3 h3 _ _ _
  have e13 : ∀ (r : Fin 2048) (c : Fin 64), k0_pay13 (F := Ideal) (k0_pay10 x4) rel (ix2 r c) = row rel (pick (by decide) (x4 (ix3 0 r 0))) c := by
    intro r c
    unfold k0_pay13
    pointwise
    exact picks10 x4 h4 _ _ _
  have e14 : ∀ (r : Fin 2048) (c : Fin 64), k0_pay14 (F := Ideal) (k0_pay10 x4) hyp (ix2 r c) = row hyp (pick (by decide) (x4 (ix3 0 r 0))) c := by
    intro r c
    unfold k0_pay14
    pointwise
    exact picks10 x4 h4 _ _ _
  have e9 := picks9 x5 h5
  have e11 := fun r o => pos_pay _ _ _ x0 x2 x1 (picks5 x0 h0) (picks6 x2 h2) (picks7 x1 h1) head rel hyp r o
  generalize k0_pay12 (F := Ideal) (k0_pay8 x3) head = A12 at *
  generalize k0_pay13 (F := Ideal) (k0_pay10 x4) rel = A13 at *
  generalize k0_pay14 (F := Ideal) (k0_pay10 x4) hyp = A14 at *
  generalize k0_pay9 (F := Ideal) x5 = A9 at *
  generalize k0_pay11 (F := Ideal) (k0_pay5 x0) (k0_pay6 x2) (k0_pay7 x1) head rel hyp head = A11 at *
  unfold k0_pay3
  pointwise
  simp only [Fin.sum_univ_one, e9 _ _ _, e11, e12, e13, e14]
  rfl

end Cert.KernelIdeal.Margin

end
-- ==== Proof.Loss.lean ====
module

public import proofs.«01_k».proof.Proof.Spec

@[expose] public section

/-!
The whole loss, and how its long sums break into blocks.
-/

namespace Cert.Margin

open Idealize.ShloMosaic
open scoped BigOperators

/-- A table of `n` rows. -/
abbrev Table (n : ℕ) : Type := (⟨2, ![n, 64]⟩ : Shape).Idx → EReal

/-- The triples of row numbers. -/
abbrev Triples : Type := (⟨2, ![16384, 3]⟩ : Shape).Idx → BitVec 32

/-- Every row number is below a thousand. -/
def Small (X : Triples) : Prop := ∀ (b : Fin 16384) (j : Fin 3), (X (ix2 b j)).toNat < 1000

/-- The score of triple `b`. -/
noncomputable def tripleScore (X : Triples) (E : Table 1000000) (R W : Table 1000) (b : Fin 16384) : EReal :=
  score (row E (pick (by decide) (X (ix2 b 0)))) (row R (pick (by decide) (X (ix2 b 1))))
    (row W (pick (by decide) (X (ix2 b 1)))) (row E (pick (by decide) (X (ix2 b 2))))

/-- What pair `b` of triples adds to the margin loss. -/
noncomputable def pairLoss (X N : Triples) (E : Table 1000000) (R W : Table 1000) (b : Fin 16384) : EReal :=
  hinge (tripleScore X E R W b) (tripleScore N E R W b)

/-- The penalty on the relations. -/
noncomputable def orth (R W : Table 1000) : EReal := ∑ i, tilt (row W i) (row R i)

/-- The loss. -/
noncomputable def loss (X N : Triples) (E : Table 1000000) (R W : Table 1000) : EReal :=
  total (∑ b, pairLoss X N E R W b) (∑ i, excess (row E i)) (orth R W)

/-- A family over `Fin n` continued by zero. -/
noncomputable def ext {n : ℕ} (f : Fin n → EReal) (k : ℕ) : EReal := if h : k < n then f ⟨k, h⟩ else 0

theorem ext_of_lt {n : ℕ} (f : Fin n → EReal) {k : ℕ} (h : k < n) : ext f k = f ⟨k, h⟩ := dif_pos h

theorem sum_ext {n : ℕ} (f : Fin n → EReal) : ∑ k ∈ Finset.range n, ext f k = ∑ i, f i := by
  rw [Finset.sum_range]
  exact Finset.sum_congr rfl fun i _ => ext_of_lt f i.isLt

/-- A sum over `A * B` terms as `A` blocks of `B`. -/
theorem sum_blocks (A B : ℕ) (g : ℕ → EReal) :
    ∑ k ∈ Finset.range (A * B), g k = ∑ a ∈ Finset.range A, ∑ b ∈ Finset.range B, g (a * B + b) := by
  induction A with
  | zero => simp
  | succ A ih => rw [Nat.succ_mul, Finset.sum_range_add, Finset.sum_range_succ, ih]

/-- What the four streams add at point `p`. -/
noncomputable def entTerm (E : Table 1000000) (p : ℕ) : EReal :=
  (((∑ i : Fin 5000, ext (fun i => excess (row E i)) (p * 5000 + i.val))
      + ∑ i : Fin 5000, ext (fun i => excess (row E i)) ((p + 50) * 5000 + i.val))
    + ∑ i : Fin 5000, ext (fun i => excess (row E i)) ((p + 100) * 5000 + i.val))
    + ∑ i : Fin 5000, ext (fun i => excess (row E i)) ((p + 150) * 5000 + i.val)

/-- What the triples add at point `p`. -/
noncomputable def scoreTerm (X N : Triples) (E : Table 1000000) (R W : Table 1000) (p : ℕ) : EReal :=
  ∑ r : Fin 2048, ext (pairLoss X N E R W) (p * 2048 + r.val)

/-- Fifty points of four streams make the whole entity table. -/
theorem sum_entTerm (E : Table 1000000) : ∑ p ∈ Finset.range 50, entTerm E p = ∑ i, excess (row E i) := by
  rw [← sum_ext]
  unfold entTerm
  generalize ext (fun i => excess (row E i)) = g
  rw [show 1000000 = (50 + 50 + 50 + 50) * 5000 from rfl, sum_blocks, Finset.sum_range_add, Finset.sum_range_add,
    Finset.sum_range_add, Finset.sum_add_distrib, Finset.sum_add_distrib, Finset.sum_add_distrib]
  have e (k : ℕ) : ∑ p ∈ Finset.range 50, ∑ i : Fin 5000, g ((p + k) * 5000 + i.val)
      = ∑ p ∈ Finset.range 50, ∑ i ∈ Finset.range 5000, g ((k + p) * 5000 + i) := by
    refine Finset.sum_congr rfl fun p _ => ?_
    rw [Finset.sum_range, Nat.add_comm p k]
  have e0 : ∑ p ∈ Finset.range 50, ∑ i : Fin 5000, g (p * 5000 + i.val)
      = ∑ p ∈ Finset.range 50, ∑ i ∈ Finset.range 5000, g (p * 5000 + i) :=
    Finset.sum_congr rfl fun p _ => (Finset.sum_range fun i => g (p * 5000 + i)).symm
  rw [e0, e 50, e 100, e 150]

/-- Eight points of triples make all of them. -/
theorem sum_scoreTerm (X N : Triples) (E : Table 1000000) (R W : Table 1000) :
    ∑ p ∈ Finset.range 8, scoreTerm X N E R W p = ∑ b, pairLoss X N E R W b := by
  rw [← sum_ext]
  unfold scoreTerm
  generalize ext (pairLoss X N E R W) = g
  rw [show 16384 = 8 * 2048 from rfl, sum_blocks]
  exact Finset.sum_congr rfl fun p _ => (Finset.sum_range fun i => g (p * 2048 + i)).symm

end Cert.Margin

end
-- ==== Proof.Fold.lean ====
module

public import proofs.«01_k».proof.Proof.Steps
public import proofs.«01_k».proof.Proof.Blocks
public import proofs.«01_k».proof.Proof.Payload
public import proofs.«01_k».proof.Proof.Loss

@[expose] public section

/-!
The accumulator over the grid.

With the blocks read as parts of the arguments, each point's step adds its term, and by induction over the points
the three cells are running sums.
-/

set_option maxRecDepth 16384

namespace Cert.KernelIdeal.Margin

open Idealize Idealize.ShloMosaic Idealize.SL.Sem Cert.KernelIdeal Cert.KernelIdeal.Gen Cert.Margin
open scoped BigOperators

variable (m : (ℓ : Loc nD τ sig) → Buf (Elt Ideal) ℓ)

/-- The arguments on a core, as tables. -/
abbrev argX (c : Dev nD) : Triples := m (c.tc.loc main_arg0)
abbrev argN (c : Dev nD) : Triples := m (c.tc.loc main_arg1)
abbrev argE (c : Dev nD) : Table 1000000 := m (c.tc.loc main_arg2)
abbrev argR (c : Dev nD) : Table 1000 := m (c.tc.loc main_arg3)
abbrev argW (c : Dev nD) : Table 1000 := m (c.tc.loc main_arg4)

theorem N_eq : cfg0.N = 50 := rfl

theorem ent_block (c : Dev nD) (t : Fin cfg0.N) (acc : EReal) :
    entAfter (F := Ideal) m c t acc = acc + entTerm (argE m c) t.val := by
  have ht : t.val < 50 := lt_of_lt_of_eq t.isLt N_eq
  refine (ent_pay _ _ _ _ acc).trans ?_
  unfold entTerm
  have e (q : ℕ) (hq : q < 200) (B : Vec Ideal S5000x64 .f32)
      (hB : ∀ (i : Fin 5000) (k : Fin 64) (h : q * 5000 + i.val < 1000000), B (ix2 i k) = argE m c (ix2 ⟨q * 5000 + i.val, h⟩ k)) :
      ∑ i : Fin 5000, excess (row B i) = ∑ i : Fin 5000, ext (fun i => excess (row (argE m c) i)) (q * 5000 + i.val) := by
    refine Finset.sum_congr rfl fun i _ => ?_
    have h : q * 5000 + i.val < 1000000 := by have := i.isLt; omega
    rw [ext_of_lt _ h]
    exact congrArg excess (funext fun k => hB i k h)
  rw [e t.val (by omega) _ (blk6 m c t), e (t.val + 50) (by omega) _ (blk7 m c t), e (t.val + 100) (by omega) _ (blk8 m c t),
    e (t.val + 150) (by omega) _ (blk9 m c t)]

theorem orth_block (c : Dev nD) (t : Fin cfg0.N) :
    k0_pay2 (F := Ideal) (iblk m c 11 t) (iblk m c 12 t) = orth (argR m c) (argW m c) := by
  refine (orth_pay _ _).trans ?_
  unfold orth
  refine Finset.sum_congr rfl fun i _ => ?_
  exact congrArg₂ tilt (funext fun k => blk12 m c t i k) (funext fun k => blk11 m c t i k)

/-- A row picked from the first thousand rows of the entity table is that row of the whole table. -/
theorem head_row (c : Dev nD) (t : Fin cfg0.N) (x y : BitVec 32) (hxy : x = y) (hy : y.toNat < 1000) :
    row (n := 1000) (iblk (F := Ideal) m c 10 t) (pick (by decide) x) = row (argE m c) (pick (by decide) y) := by
  subst hxy
  funext k
  have h : (pick (n := 1000) (by decide) x).val < 1000000 := by have := (pick (n := 1000) (by decide) x).isLt; omega
  refine (blk10 m c t _ k h).trans ?_
  unfold row
  congr 2
  apply Fin.ext
  show (pick (n := 1000) (by decide) x).val = _
  rw [pick_val _ hy, pick_val _ (by omega)]

theorem rel_row (c : Dev nD) (t : Fin cfg0.N) (x y : BitVec 32) (hxy : x = y) :
    row (n := 1000) (iblk (F := Ideal) m c 11 t) (pick (by decide) x) = row (argR m c) (pick (by decide) y) := by
  subst hxy
  funext k
  exact blk11 m c t _ k

theorem hyp_row (c : Dev nD) (t : Fin cfg0.N) (x y : BitVec 32) (hxy : x = y) :
    row (n := 1000) (iblk (F := Ideal) m c 12 t) (pick (by decide) x) = row (argW m c) (pick (by decide) y) := by
  subst hxy
  funext k
  exact blk12 m c t _ k

theorem score_block (c : Dev nD) (hX : Small (argX m c)) (hN : Small (argN m c)) (t : Fin cfg0.N) (ht : t.val < 8) (acc : EReal) :
    scoreAfter (F := Ideal) m c t acc = acc + scoreTerm (argX m c) (argN m c) (argE m c) (argR m c) (argW m c) t.val := by
  have hr (r : Fin 2048) : t.val * 2048 + r.val < 16384 := by have := r.isLt; omega
  have b0 := fun r => blk0 (F := Ideal) m c t ht r (hr r)
  have b1 := fun r => blk1 (F := Ideal) m c t ht r (hr r)
  have b2 := fun r => blk2 (F := Ideal) m c t ht r (hr r)
  have b3 := fun r => blk3 (F := Ideal) m c t ht r (hr r)
  have b4 := fun r => blk4 (F := Ideal) m c t ht r (hr r)
  have b5 := fun r => blk5 (F := Ideal) m c t ht r (hr r)
  refine (score_pay _ _ _ _ _ _ (fun r => ?_) (fun r => ?_) (fun r => ?_) (fun r => ?_) (fun r => ?_) (fun r => ?_) _ _ _ acc).trans ?_
  · rw [b0]; exact hX _ _
  · rw [b1]; exact hX _ _
  · rw [b2]; exact hX _ _
  · rw [b3]; exact hN _ _
  · rw [b4]; exact hN _ _
  · rw [b5]; exact hN _ _
  · unfold scoreTerm
    refine congrArg (acc + ·) (Finset.sum_congr rfl fun r _ => ?_)
    rw [ext_of_lt _ (hr r)]
    unfold pairLoss tripleScore
    rw [head_row m c t _ _ (b0 r) (hX _ _), head_row m c t _ _ (b2 r) (hX _ _), head_row m c t _ _ (b3 r) (hN _ _),
      head_row m c t _ _ (b5 r) (hN _ _), rel_row m c t _ _ (b1 r), hyp_row m c t _ _ (b1 r), rel_row m c t _ _ (b4 r),
      hyp_row m c t _ _ (b4 r)]

theorem zero_word : (FloatOps.ofBits (F := Ideal) FTy.f32 0#32 : EReal) = 0 := Ideal.ofBits_zero_f32

/-- The three running sums. -/
theorem cells (c : Dev nD) (hX : Small (argX m c)) (hN : Small (argN m c)) (n : ℕ) (hn : n < cfg0.N) :
    cell (F := Ideal) m c n hn 0
        = ∑ p ∈ Finset.range (min (n + 1) 8), scoreTerm (argX m c) (argN m c) (argE m c) (argR m c) (argW m c) p
      ∧ cell (F := Ideal) m c n hn 1 = ∑ p ∈ Finset.range (n + 1), entTerm (argE m c) p
      ∧ cell (F := Ideal) m c n hn 2 = orth (argR m c) (argW m c) := by
  have hNe := N_eq
  induction n with
  | zero =>
    have A := cell_A (F := Ideal) m c ⟨0, hn⟩ rfl (show (0 : ℕ) < 8 by decide) (show ¬(0 : ℕ) % 50 = 49 by decide)
    refine ⟨(A 0).trans ?_, (A 1).trans ?_, (A 2).trans ?_⟩
    · rw [if_pos (show (0 : Fin 3).val = 0 from rfl), score_block m c hX hN _ (show (0 : ℕ) < 8 by decide), zero_word]
      simp
    · rw [if_neg (by decide), if_pos (show (1 : Fin 3).val = 1 from rfl), ent_block, zero_word]
      simp
    · rw [if_neg (by decide), if_neg (by decide)]
      exact orth_block m c _
  | succ n ih =>
    obtain ⟨i0, i1, i2⟩ := ih (by omega)
    by_cases h2 : n + 1 < 8
    · have B := cell_B (F := Ideal) m c ⟨n + 1, hn⟩ (by show ¬(n + 1) % 50 = 0; omega) h2 (by show ¬(n + 1) % 50 = 49; omega)
      refine ⟨(B 0).trans ?_, (B 1).trans ?_, (B 2).trans ?_⟩
      · rw [if_pos (show (0 : Fin 3).val = 0 from rfl), score_block m c hX hN _ h2]
        rw [show min (n + 1 + 1) 8 = n + 1 + 1 by omega, Finset.sum_range_succ]
        rw [show min (n + 1) 8 = n + 1 by omega] at i0
        exact congrArg (· + _) i0
      · rw [if_neg (by decide), if_pos (show (1 : Fin 3).val = 1 from rfl), ent_block, Finset.sum_range_succ]
        exact congrArg (· + _) i1
      · rw [if_neg (by decide), if_neg (by decide)]
        exact i2
    · have CD : ∀ k : Fin 3, cell (F := Ideal) m c (n + 1) hn k
          = if k.val = 1 then entAfter m c ⟨n + 1, hn⟩ (cell m c n (by omega) 1) else cell m c n (by omega) k := by
        intro k
        by_cases h3 : (n + 1) % 50 = 49
        · exact cell_D (F := Ideal) m c ⟨n + 1, hn⟩ (by show ¬(n + 1) % 50 = 0; omega) h2 h3 k
        · exact cell_C (F := Ideal) m c ⟨n + 1, hn⟩ (by show ¬(n + 1) % 50 = 0; omega) h2 h3 k
      refine ⟨(CD 0).trans ?_, (CD 1).trans ?_, (CD 2).trans ?_⟩
      · rw [if_neg (by decide), i0, show min (n + 1) 8 = 8 by omega, show min (n + 1 + 1) 8 = 8 by omega]
      · rw [if_pos (show (1 : Fin 3).val = 1 from rfl), ent_block, Finset.sum_range_succ]
        exact congrArg (· + _) i1
      · rw [if_neg (by decide)]
        exact i2

/-- What the last point writes. -/
theorem out_last (c : Dev nD) (hX : Small (argX m c)) (hN : Small (argN m c)) (t : Fin cfg0.N) (ht : t.val % 50 = 49) (j) :
    (outsAt0 (F := Ideal) m c t.val t.isLt).1 j = loss (argX m c) (argN m c) (argE m c) (argR m c) (argW m c) := by
  have hNe := N_eq
  have h50 : t.val = 49 := by have := t.isLt; omega
  obtain ⟨i0, i1, i2⟩ := cells m c hX hN (t.val - 1) (prev_lt t)
  rw [out_D (F := Ideal) m c t (by omega) (by omega) ht]
  refine (fin_pay _ _ _ j).trans ?_
  rw [i0, i2, ent_block, i1]
  unfold loss
  rw [← sum_entTerm, ← sum_scoreTerm, h50, Finset.sum_range_succ _ 49]
  rfl

end Cert.KernelIdeal.Margin

end
-- ==== Proof.Result.lean ====
module

public import proofs.«01_k».proof.Proof.Fold
public import Idealize.ShloMosaic.Lib.Claim

@[expose] public section

/-!
The kernel's result.

The last point writes the only block of the output, and the host reads the single number out of it.
-/

set_option maxRecDepth 16384

namespace Cert.KernelIdeal.Margin

open Idealize Idealize.ShloMosaic Idealize.SL.Sem Cert.KernelIdeal Cert.KernelIdeal.Gen Cert.Margin
open scoped BigOperators

variable (m : (ℓ : Loc nD τ sig) → Buf (Elt Ideal) ℓ) (ρ : Dev nD → PrngReg)

/-- The output array after the grid. -/
theorem out_array (c : Dev nD) (hX : Small (argX m c)) (hN : Small (argN m c)) :
    (dats (F := Ideal) m 0 c).arrAt 13 cfg0.N = fun _ => loss (argX m c) (argN m c) (argE m c) (argR m c) (argW m c) := by
  refine (dats (F := Ideal) m 0 c).arrAt_eq_of_covers 13 _ (by decide +kernel) fun t hf y => ?_
  rw [after0_13]
  exact out_last m c hX hN t ((flush0_13 t).mp hf) _

/-- What the host's last line leaves in the result buffer. -/
theorem tail_value (c : Dev nD) (hX : Small (argX m c)) (hN : Small (argN m c)) (i) :
    Pipeline.afterTail₀ cfgs (dats (F := Ideal) m) 0 (V0 m) [hostOps1] c main_v9 i
      = loss (argX m c) (argN m c) (argE m c) (argR m c) (argW m c) := by
  unfold Pipeline.afterTail₀
  simp only [hostOps1, List.flatten_cons, List.flatten_nil, List.append_nil, StableHlo.after_cons, StableHlo.after_nil]
  rw [StableHlo.reshape_result]
  have e : Pipeline.withArrays (cfgs 0).spec c (V0 m c) (fun w => (dats (F := Ideal) m 0 c).arrAt w (cfgs 0).N)
      (Proc.tc.devRef main_v8) = fun _ => loss (argX m c) (argN m c) (argE m c) (argR m c) (argW m c) :=
    (Pipeline.withArrays_arr_shared (cfgs 0).spec c (V0 m c) _
      ((dats (F := Ideal) m 0 c).arrAt_sharedIn sharedIn0 (V0 m c) (A_eq m c) _) 13).trans (out_array m c hX hN)
  rw [e]
  rfl

/-- The kernel's run: the result is the loss. -/
theorem run_value (hX : ∀ c, Small (argX m c)) (hN : ∀ c, Small (argN m c)) :
    θ_run defs (onTc (τ := τ) (main (F := Ideal))) ⟨m, fun _ => 0, ρ⟩ fun r => ∀ c : Dev nD,
      r.2.mem ((c.tc : Thread nD τ).loc main_v9) = fun _ => loss (argX m c) (argN m c) (argE m c) (argR m c) (argW m c) :=
  (θ_run defs _ _).mono (fun r h c => (h.rest_eq c main_v9 (by decide)).trans (funext fun i => tail_value m c (hX c) (hN c) i))
    (run_main m ρ)

end Cert.KernelIdeal.Margin

end
-- ==== Proof.Lookup.lean ====
module

public import proofs.«01_k».proof.Proof.Gen.ReferenceIdeal.Read
public import proofs.«01_k».proof.Proof.Loss
public import Idealize.ShloMosaic.Lib.Routing.Ops
public import Idealize.ShloMosaic.Lib.ReduceAll

@[expose] public section

/-!
The reference's table look-ups.

The reference takes rows by number, with a test that the number is in range. Under the precondition every number
is in range, so each look-up is the row itself.
-/

set_option maxRecDepth 16384

namespace Cert.ReferenceIdeal.Margin

open Idealize Idealize.ShloMosaic Idealize.SL.Sem Cert.ReferenceIdeal Cert.ReferenceIdeal.Read Cert.Margin
open scoped BigOperators

/-- A small word is not negative, so nothing is added to it. -/
theorem keep (x n : BitVec 32) (hx : x.toNat < 1000) :
    Scalar.select (IntOp.cmpi .slt x 0#32) (IntOp.addi x n) x = x := by
  have h : IntOp.cmpi .slt x 0#32 = 0#1 := by
    have hs : x.slt 0#32 = false := by
      rw [BitVec.slt_eq_decide, BitVec.toInt_eq_toNat_of_lt (by omega)]
      simp
    simp [IntOp.cmpi, hs]
  rw [h]
  rfl

/-- A small word passes the test of its range. -/
theorem in_range (x y : BitVec 32) (hx : x.toNat < 1000) (hy : x.toNat ≤ y.toNat) (hy' : y.toNat < 2 ^ 31) :
    IntOp.andi (IntOp.cmpi .sge x 0#32) (IntOp.cmpi .sle x y) = 1#1 := by
  have h1 : (0#32 : BitVec 32).sle x = true := by
    rw [BitVec.sle_eq_decide, BitVec.toInt_eq_toNat_of_lt (x := x) (by omega)]
    simp
  have h2 : x.sle y = true := by
    rw [BitVec.sle_eq_decide, BitVec.toInt_eq_toNat_of_lt (by omega), BitVec.toInt_eq_toNat_of_lt (x := y) (by omega)]
    simpa using hy
  simp [IntOp.cmpi, h1, h2, IntOp.andi]

theorem index_col (i : S16384x1.Idx) : ∃ b : Fin 16384, i = ix2 b 0 :=
  ⟨i 0, funext fun a => match a with
    | ⟨0, _⟩ => rfl
    | ⟨1, _⟩ => Fin.ext (by have h : (i 1).val < 1 := (i 1).isLt; show (i 1).val = 0; omega)⟩

theorem index_row (i : S16384x64.Idx) : i = ix2 (i 0 : Fin 16384) (i 1 : Fin 64) :=
  funext fun a => match a with
    | ⟨0, _⟩ => rfl
    | ⟨1, _⟩ => rfl

/-- A guarded look-up whose every number is in range. -/
theorem taken {nb : ℕ} (hnb : 0 < nb) (hnb' : nb < 2 ^ 31) (T : Table nb)
    (d : GatherDims (Routing.shape2 nb 64) (Routing.shape2 16384 1) (Routing.shape2 16384 64)) (h1 : d.offsetDims = [1])
    (h2 : d.collapsedSliceDims = [0]) (h3 : d.operandBatchingDims = []) (h4 : d.startIndexMap = [0]) (h5 : d.indexVectorDim = 1)
    (idx : IVec S16384x1 32) (i : S16384x64.Idx) (x : BitVec 32) (hx : x.toNat < nb) (hidx : idx (ix2 (i 0 : Fin 16384) 0) = x)
    (g : BitVec 1) (hg : g = 1#1) (o : EReal) :
    Scalar.select g (Host.gather d T idx i) o = row T (pick hnb x) (i 1 : Fin 64) := by
  subst hg
  show Host.gather d T idx i = _
  conv_lhs => rw [index_row i]
  exact Routing.gather_row d h1 h2 h3 h4 h5 T idx _ _ (pick hnb x)
    (hidx.trans (by rw [pick_val _ hx, BitVec.ofNat_toNat, BitVec.setWidth_eq])) hnb'

theorem col0 (X : Triples) (hX : Small X) (b : Fin 16384) :
    val_main_call0_v5 (F := Ideal) X (ix2 b 0) = X (ix2 b 0) := by
  have e : idx_main_v0 (idx_main_v1 (idx_main_call0_v5 (ix2 b 0))) = ix2 b 0 :=
    funext fun a => match a with
      | ⟨0, _⟩ => Fin.ext (by first | rfl | exact Nat.zero_add _ | simp [ix2])
      | ⟨1, _⟩ => rfl
  simp only [val_main_call0_v5_apply, val_main_call0_v4_apply, val_main_call0_v1_apply, val_main_call0_v3_apply, val_main_call0_v0_apply, val_main_call0_v2_apply, val_main_call0_c_apply,
    val_main_call0_c_0_apply, val_main_v1_apply, val_main_v0_apply, e]
  exact keep _ _ (hX b 0)

theorem ok0 (X : Triples) (hX : Small X) (i : S16384.Idx) : val_main_call0_v12 (F := Ideal) X i = 1#1 := by
  unfold val_main_call0_v12
  refine Host.reduce_andi_one _ _ _ _ i rfl fun j => ?_
  obtain ⟨b, rfl⟩ := index_col j
  simp only [val_main_call0_v11_apply, val_main_call0_v7_apply, val_main_call0_v10_apply, col0 X hX, val_main_call0_v6_apply, val_main_call0_c_2_apply, val_main_call0_v9_apply,
    val_main_call0_v8_apply, val_main_call0_c_1_apply]
  have h := hX b 0
  exact in_range _ _ h (by show _ ≤ 999999; omega) (by decide)

/-- Look-up 0: rows of the table at column 0 of the triples. -/
theorem take0 (X : Triples) (hX : Small X) (T : Table 1000000) (i : S16384x64.Idx) :
    val_main_v2 (F := Ideal) X T i = row T (pick (by decide) (X (ix2 (i 0 : Fin 16384) 0))) (i 1 : Fin 64) := by
  have h := hX (i 0 : Fin 16384) 0
  rw [val_main_v2_apply, val_main_call0_v14_apply]
  exact taken _ (by decide) T _ rfl rfl rfl rfl rfl _ i _ (by omega) (col0 X hX _) _ (ok0 X hX _) _

theorem col1 (X : Triples) (hX : Small X) (b : Fin 16384) :
    val_main_call1_v5 (F := Ideal) X (ix2 b 0) = X (ix2 b 1) := by
  have e : idx_main_v3 (idx_main_v4 (idx_main_call1_v5 (ix2 b 0))) = ix2 b 1 :=
    funext fun a => match a with
      | ⟨0, _⟩ => Fin.ext (by first | rfl | exact Nat.zero_add _ | simp [ix2])
      | ⟨1, _⟩ => rfl
  simp only [val_main_call1_v5_apply, val_main_call1_v4_apply, val_main_call1_v1_apply, val_main_call1_v3_apply, val_main_call1_v0_apply, val_main_call1_v2_apply, val_main_call1_c_apply,
    val_main_call1_c_0_apply, val_main_v4_apply, val_main_v3_apply, e]
  exact keep _ _ (hX b 1)

theorem ok1 (X : Triples) (hX : Small X) (i : S16384.Idx) : val_main_call1_v12 (F := Ideal) X i = 1#1 := by
  unfold val_main_call1_v12
  refine Host.reduce_andi_one _ _ _ _ i rfl fun j => ?_
  obtain ⟨b, rfl⟩ := index_col j
  simp only [val_main_call1_v11_apply, val_main_call1_v7_apply, val_main_call1_v10_apply, col1 X hX, val_main_call1_v6_apply, val_main_call1_c_2_apply, val_main_call1_v9_apply,
    val_main_call1_v8_apply, val_main_call1_c_1_apply]
  have h := hX b 1
  exact in_range _ _ h (by show _ ≤ 999; omega) (by decide)

/-- Look-up 1: rows of the table at column 1 of the triples. -/
theorem take1 (X : Triples) (hX : Small X) (T : Table 1000) (i : S16384x64.Idx) :
    val_main_v5 (F := Ideal) X T i = row T (pick (by decide) (X (ix2 (i 0 : Fin 16384) 1))) (i 1 : Fin 64) := by
  have h := hX (i 0 : Fin 16384) 1
  rw [val_main_v5_apply, val_main_call1_v14_apply]
  exact taken _ (by decide) T _ rfl rfl rfl rfl rfl _ i _ (by omega) (col1 X hX _) _ (ok1 X hX _) _

theorem col2 (X : Triples) (hX : Small X) (b : Fin 16384) :
    val_main_call2_v5 (F := Ideal) X (ix2 b 0) = X (ix2 b 1) := by
  have e : idx_main_v6 (idx_main_v7 (idx_main_call2_v5 (ix2 b 0))) = ix2 b 1 :=
    funext fun a => match a with
      | ⟨0, _⟩ => Fin.ext (by first | rfl | exact Nat.zero_add _ | simp [ix2])
      | ⟨1, _⟩ => rfl
  simp only [val_main_call2_v5_apply, val_main_call2_v4_apply, val_main_call2_v1_apply, val_main_call2_v3_apply, val_main_call2_v0_apply, val_main_call2_v2_apply, val_main_call2_c_apply,
    val_main_call2_c_0_apply, val_main_v7_apply, val_main_v6_apply, e]
  exact keep _ _ (hX b 1)

theorem ok2 (X : Triples) (hX : Small X) (i : S16384.Idx) : val_main_call2_v12 (F := Ideal) X i = 1#1 := by
  unfold val_main_call2_v12
  refine Host.reduce_andi_one _ _ _ _ i rfl fun j => ?_
  obtain ⟨b, rfl⟩ := index_col j
  simp only [val_main_call2_v11_apply, val_main_call2_v7_apply, val_main_call2_v10_apply, col2 X hX, val_main_call2_v6_apply, val_main_call2_c_2_apply, val_main_call2_v9_apply,
    val_main_call2_v8_apply, val_main_call2_c_1_apply]
  have h := hX b 1
  exact in_range _ _ h (by show _ ≤ 999; omega) (by decide)

/-- Look-up 2: rows of the table at column 1 of the triples. -/
theorem take2 (X : Triples) (hX : Small X) (T : Table 1000) (i : S16384x64.Idx) :
    val_main_v8 (F := Ideal) X T i = row T (pick (by decide) (X (ix2 (i 0 : Fin 16384) 1))) (i 1 : Fin 64) := by
  have h := hX (i 0 : Fin 16384) 1
  rw [val_main_v8_apply, val_main_call2_v14_apply]
  exact taken _ (by decide) T _ rfl rfl rfl rfl rfl _ i _ (by omega) (col2 X hX _) _ (ok2 X hX _) _

theorem col3 (X : Triples) (hX : Small X) (b : Fin 16384) :
    val_main_call3_v5 (F := Ideal) X (ix2 b 0) = X (ix2 b 2) := by
  have e : idx_main_v9 (idx_main_v10 (idx_main_call3_v5 (ix2 b 0))) = ix2 b 2 :=
    funext fun a => match a with
      | ⟨0, _⟩ => Fin.ext (by first | rfl | exact Nat.zero_add _ | simp [ix2])
      | ⟨1, _⟩ => rfl
  simp only [val_main_call3_v5_apply, val_main_call3_v4_apply, val_main_call3_v1_apply, val_main_call3_v3_apply, val_main_call3_v0_apply, val_main_call3_v2_apply, val_main_call3_c_apply,
    val_main_call3_c_0_apply, val_main_v10_apply, val_main_v9_apply, e]
  exact keep _ _ (hX b 2)

theorem ok3 (X : Triples) (hX : Small X) (i : S16384.Idx) : val_main_call3_v12 (F := Ideal) X i = 1#1 := by
  unfold val_main_call3_v12
  refine Host.reduce_andi_one _ _ _ _ i rfl fun j => ?_
  obtain ⟨b, rfl⟩ := index_col j
  simp only [val_main_call3_v11_apply, val_main_call3_v7_apply, val_main_call3_v10_apply, col3 X hX, val_main_call3_v6_apply, val_main_call3_c_2_apply, val_main_call3_v9_apply,
    val_main_call3_v8_apply, val_main_call3_c_1_apply]
  have h := hX b 2
  exact in_range _ _ h (by show _ ≤ 999999; omega) (by decide)

/-- Look-up 3: rows of the table at column 2 of the triples. -/
theorem take3 (X : Triples) (hX : Small X) (T : Table 1000000) (i : S16384x64.Idx) :
    val_main_v11 (F := Ideal) X T i = row T (pick (by decide) (X (ix2 (i 0 : Fin 16384) 2))) (i 1 : Fin 64) := by
  have h := hX (i 0 : Fin 16384) 2
  rw [val_main_v11_apply, val_main_call3_v14_apply]
  exact taken _ (by decide) T _ rfl rfl rfl rfl rfl _ i _ (by omega) (col3 X hX _) _ (ok3 X hX _) _

theorem col4 (X : Triples) (hX : Small X) (b : Fin 16384) :
    val_main_call4_v5 (F := Ideal) X (ix2 b 0) = X (ix2 b 0) := by
  have e : idx_main_v31 (idx_main_v32 (idx_main_call4_v5 (ix2 b 0))) = ix2 b 0 :=
    funext fun a => match a with
      | ⟨0, _⟩ => Fin.ext (by first | rfl | exact Nat.zero_add _ | simp [ix2])
      | ⟨1, _⟩ => rfl
  simp only [val_main_call4_v5_apply, val_main_call4_v4_apply, val_main_call4_v1_apply, val_main_call4_v3_apply, val_main_call4_v0_apply, val_main_call4_v2_apply, val_main_call4_c_apply,
    val_main_call4_c_0_apply, val_main_v32_apply, val_main_v31_apply, e]
  exact keep _ _ (hX b 0)

theorem ok4 (X : Triples) (hX : Small X) (i : S16384.Idx) : val_main_call4_v12 (F := Ideal) X i = 1#1 := by
  unfold val_main_call4_v12
  refine Host.reduce_andi_one _ _ _ _ i rfl fun j => ?_
  obtain ⟨b, rfl⟩ := index_col j
  simp only [val_main_call4_v11_apply, val_main_call4_v7_apply, val_main_call4_v10_apply, col4 X hX, val_main_call4_v6_apply, val_main_call4_c_2_apply, val_main_call4_v9_apply,
    val_main_call4_v8_apply, val_main_call4_c_1_apply]
  have h := hX b 0
  exact in_range _ _ h (by show _ ≤ 999999; omega) (by decide)

/-- Look-up 4: rows of the table at column 0 of the triples. -/
theorem take4 (X : Triples) (hX : Small X) (T : Table 1000000) (i : S16384x64.Idx) :
    val_main_v33 (F := Ideal) X T i = row T (pick (by decide) (X (ix2 (i 0 : Fin 16384) 0))) (i 1 : Fin 64) := by
  have h := hX (i 0 : Fin 16384) 0
  rw [val_main_v33_apply, val_main_call4_v14_apply]
  exact taken _ (by decide) T _ rfl rfl rfl rfl rfl _ i _ (by omega) (col4 X hX _) _ (ok4 X hX _) _

theorem col5 (X : Triples) (hX : Small X) (b : Fin 16384) :
    val_main_call5_v5 (F := Ideal) X (ix2 b 0) = X (ix2 b 1) := by
  have e : idx_main_v34 (idx_main_v35 (idx_main_call5_v5 (ix2 b 0))) = ix2 b 1 :=
    funext fun a => match a with
      | ⟨0, _⟩ => Fin.ext (by first | rfl | exact Nat.zero_add _ | simp [ix2])
      | ⟨1, _⟩ => rfl
  simp only [val_main_call5_v5_apply, val_main_call5_v4_apply, val_main_call5_v1_apply, val_main_call5_v3_apply, val_main_call5_v0_apply, val_main_call5_v2_apply, val_main_call5_c_apply,
    val_main_call5_c_0_apply, val_main_v35_apply, val_main_v34_apply, e]
  exact keep _ _ (hX b 1)

theorem ok5 (X : Triples) (hX : Small X) (i : S16384.Idx) : val_main_call5_v12 (F := Ideal) X i = 1#1 := by
  unfold val_main_call5_v12
  refine Host.reduce_andi_one _ _ _ _ i rfl fun j => ?_
  obtain ⟨b, rfl⟩ := index_col j
  simp only [val_main_call5_v11_apply, val_main_call5_v7_apply, val_main_call5_v10_apply, col5 X hX, val_main_call5_v6_apply, val_main_call5_c_2_apply, val_main_call5_v9_apply,
    val_main_call5_v8_apply, val_main_call5_c_1_apply]
  have h := hX b 1
  exact in_range _ _ h (by show _ ≤ 999; omega) (by decide)

/-- Look-up 5: rows of the table at column 1 of the triples. -/
theorem take5 (X : Triples) (hX : Small X) (T : Table 1000) (i : S16384x64.Idx) :
    val_main_v36 (F := Ideal) X T i = row T (pick (by decide) (X (ix2 (i 0 : Fin 16384) 1))) (i 1 : Fin 64) := by
  have h := hX (i 0 : Fin 16384) 1
  rw [val_main_v36_apply, val_main_call5_v14_apply]
  exact taken _ (by decide) T _ rfl rfl rfl rfl rfl _ i _ (by omega) (col5 X hX _) _ (ok5 X hX _) _

theorem col6 (X : Triples) (hX : Small X) (b : Fin 16384) :
    val_main_call6_v5 (F := Ideal) X (ix2 b 0) = X (ix2 b 1) := by
  have e : idx_main_v37 (idx_main_v38 (idx_main_call6_v5 (ix2 b 0))) = ix2 b 1 :=
    funext fun a => match a with
      | ⟨0, _⟩ => Fin.ext (by first | rfl | exact Nat.zero_add _ | simp [ix2])
      | ⟨1, _⟩ => rfl
  simp only [val_main_call6_v5_apply, val_main_call6_v4_apply, val_main_call6_v1_apply, val_main_call6_v3_apply, val_main_call6_v0_apply, val_main_call6_v2_apply, val_main_call6_c_apply,
    val_main_call6_c_0_apply, val_main_v38_apply, val_main_v37_apply, e]
  exact keep _ _ (hX b 1)

theorem ok6 (X : Triples) (hX : Small X) (i : S16384.Idx) : val_main_call6_v12 (F := Ideal) X i = 1#1 := by
  unfold val_main_call6_v12
  refine Host.reduce_andi_one _ _ _ _ i rfl fun j => ?_
  obtain ⟨b, rfl⟩ := index_col j
  simp only [val_main_call6_v11_apply, val_main_call6_v7_apply, val_main_call6_v10_apply, col6 X hX, val_main_call6_v6_apply, val_main_call6_c_2_apply, val_main_call6_v9_apply,
    val_main_call6_v8_apply, val_main_call6_c_1_apply]
  have h := hX b 1
  exact in_range _ _ h (by show _ ≤ 999; omega) (by decide)

/-- Look-up 6: rows of the table at column 1 of the triples. -/
theorem take6 (X : Triples) (hX : Small X) (T : Table 1000) (i : S16384x64.Idx) :
    val_main_v39 (F := Ideal) X T i = row T (pick (by decide) (X (ix2 (i 0 : Fin 16384) 1))) (i 1 : Fin 64) := by
  have h := hX (i 0 : Fin 16384) 1
  rw [val_main_v39_apply, val_main_call6_v14_apply]
  exact taken _ (by decide) T _ rfl rfl rfl rfl rfl _ i _ (by omega) (col6 X hX _) _ (ok6 X hX _) _

theorem col7 (X : Triples) (hX : Small X) (b : Fin 16384) :
    val_main_call7_v5 (F := Ideal) X (ix2 b 0) = X (ix2 b 2) := by
  have e : idx_main_v40 (idx_main_v41 (idx_main_call7_v5 (ix2 b 0))) = ix2 b 2 :=
    funext fun a => match a with
      | ⟨0, _⟩ => Fin.ext (by first | rfl | exact Nat.zero_add _ | simp [ix2])
      | ⟨1, _⟩ => rfl
  simp only [val_main_call7_v5_apply, val_main_call7_v4_apply, val_main_call7_v1_apply, val_main_call7_v3_apply, val_main_call7_v0_apply, val_main_call7_v2_apply, val_main_call7_c_apply,
    val_main_call7_c_0_apply, val_main_v41_apply, val_main_v40_apply, e]
  exact keep _ _ (hX b 2)

theorem ok7 (X : Triples) (hX : Small X) (i : S16384.Idx) : val_main_call7_v12 (F := Ideal) X i = 1#1 := by
  unfold val_main_call7_v12
  refine Host.reduce_andi_one _ _ _ _ i rfl fun j => ?_
  obtain ⟨b, rfl⟩ := index_col j
  simp only [val_main_call7_v11_apply, val_main_call7_v7_apply, val_main_call7_v10_apply, col7 X hX, val_main_call7_v6_apply, val_main_call7_c_2_apply, val_main_call7_v9_apply,
    val_main_call7_v8_apply, val_main_call7_c_1_apply]
  have h := hX b 2
  exact in_range _ _ h (by show _ ≤ 999999; omega) (by decide)

/-- Look-up 7: rows of the table at column 2 of the triples. -/
theorem take7 (X : Triples) (hX : Small X) (T : Table 1000000) (i : S16384x64.Idx) :
    val_main_v42 (F := Ideal) X T i = row T (pick (by decide) (X (ix2 (i 0 : Fin 16384) 2))) (i 1 : Fin 64) := by
  have h := hX (i 0 : Fin 16384) 2
  rw [val_main_v42_apply, val_main_call7_v14_apply]
  exact taken _ (by decide) T _ rfl rfl rfl rfl rfl _ i _ (by omega) (col7 X hX _) _ (ok7 X hX _) _

end Cert.ReferenceIdeal.Margin

end
-- ==== Proof.RefValue.lean ====
module

public import proofs.«01_k».proof.Proof.Lookup
public import Idealize.ShloMosaic.Lib.Pointwise
public import Idealize.ShloMosaic.Lib.Pipeline.ValueKit

@[expose] public section

/-!
The reference's number.

The reference's operations read one by one, down to the loss.
-/

set_option maxRecDepth 16384

namespace Cert.ReferenceIdeal.Margin

open Idealize Idealize.ShloMosaic Idealize.SL.Sem Cert.ReferenceIdeal Cert.ReferenceIdeal.Read Cert.Margin
open scoped BigOperators

theorem zero_word : (FloatOps.ofBits (F := Ideal) FTy.f32 0x00000000#32 : EReal) = 0 := Ideal.ofBits_zero_f32
theorem one_word : (FloatOps.ofBits (F := Ideal) FTy.f32 0x3F800000#32 : EReal) = 1 := Ideal.ofBits_one_f32

/-- The length that the reference computes for a triple is its score. -/
theorem pos_score (X : Triples) (hX : Small X) (E : Table 1000000) (R W : Table 1000) (i : S16384.Idx) :
    val_main_v30 (F := Ideal) X E R W i = tripleScore X E R W (i 0 : Fin 16384) := by
  simp only [val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply,
    val_main_cst_apply, val_main_cst_0_apply, val_main_cst_1_apply, val_main_cst_2_apply, take0 X hX, take1 X hX, take2 X hX, take3 X hX]
  simp only [zero_word, zero_add]
  rfl

/-- The length that the reference computes for a triple is its score. -/
theorem neg_score (X : Triples) (hX : Small X) (E : Table 1000000) (R W : Table 1000) (i : S16384.Idx) :
    val_main_v61 (F := Ideal) X E R W i = tripleScore X E R W (i 0 : Fin 16384) := by
  simp only [val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply,
    val_main_cst_3_apply, val_main_cst_4_apply, val_main_cst_5_apply, val_main_cst_6_apply, take4 X hX, take5 X hX, take6 X hX, take7 X hX]
  simp only [zero_word, zero_add]
  rfl

theorem pair_loss (X N : Triples) (hX : Small X) (hN : Small N) (E : Table 1000000) (R W : Table 1000) (i : S16384.Idx) :
    val_main_v65 (F := Ideal) X N E R W i = pairLoss X N E R W (i 0 : Fin 16384) := by
  simp only [val_main_v65_apply, val_main_v64_apply, val_main_v63_apply, val_main_v62_apply, val_main_cst_7_apply,
    val_main_call8_v0_apply, val_main_call8_cst_apply, pos_score X hX, neg_score N hN]
  simp only [zero_word, one_word]
  rfl

theorem ent_excess (E : Table 1000000) (i : S1000000.Idx) :
    val_main_v72 (F := Ideal) E i = excess (row E (i 0 : Fin 1000000)) := by
  have e (k : Fin 64) : idx_main_v68 i k = ix2 (i 0 : Fin 1000000) k := funext fun a => match a with
    | ⟨0, _⟩ => rfl
    | ⟨1, _⟩ => rfl
  simp only [val_main_v72_apply, val_main_v71_apply, val_main_v70_apply, val_main_v69_apply, val_main_v68_apply, val_main_v67_apply,
    val_main_cst_9_apply, val_main_cst_10_apply, val_main_call9_v0_apply, val_main_call9_cst_apply, e]
  simp only [zero_word, one_word, zero_add]
  rfl

theorem rel_tilt (R W : Table 1000) (i : S1000.Idx) :
    val_main_v82 (F := Ideal) R W i = tilt (row W (i 0 : Fin 1000)) (row R (i 0 : Fin 1000)) := by
  have e (k : Fin 64) : idx_main_v78 i k = ix2 (i 0 : Fin 1000) k := funext fun a => match a with
    | ⟨0, _⟩ => rfl
    | ⟨1, _⟩ => rfl
  have e' (k : Fin 64) : idx_main_v75 i k = ix2 (i 0 : Fin 1000) k := funext fun a => match a with
    | ⟨0, _⟩ => rfl
    | ⟨1, _⟩ => rfl
  simp only [val_main_v82_apply, val_main_v81_apply, val_main_v80_apply, val_main_v79_apply, val_main_v78_apply, val_main_v77_apply,
    val_main_v76_apply, val_main_v75_apply, val_main_v74_apply, val_main_cst_12_apply, val_main_cst_13_apply, val_main_cst_14_apply,
    val_main_call10_v0_apply, val_main_call10_cst_apply, e, e']
  simp only [zero_word, zero_add]
  rfl

/-- A sum over the indices of a vector is a sum over its positions. -/
theorem sum_vector {n : ℕ} (f : Fin n → EReal) : ∑ j : (⟨1, ![n]⟩ : Shape).Idx, f (j 0 : Fin n) = ∑ b, f b :=
  Fintype.sum_equiv ⟨fun j => j 0, ix1, fun j => funext fun a => match a with | ⟨0, _⟩ => rfl, fun _ => rfl⟩ _ _ fun _ => rfl

/-- The reference's result. -/
theorem result (X N : Triples) (hX : Small X) (hN : Small N) (E : Table 1000000) (R W : Table 1000) (i : S_.Idx) :
    val_main_v89 (F := Ideal) X N E R W i = loss X N E R W := by
  simp only [val_main_v89_apply, val_main_v88_apply, val_main_v87_apply, val_main_v86_apply, val_main_v85_apply, val_main_v84_apply,
    val_main_v83_apply, val_main_v73_apply, val_main_v66_apply, val_main_cst_8_apply, val_main_cst_11_apply, val_main_cst_15_apply,
    val_main_cst_16_apply, val_main_cst_17_apply, val_main_cst_18_apply, val_main_cst_19_apply, pair_loss X N hX hN, ent_excess, rel_tilt]
  simp only [zero_word, one_word, zero_add]
  have h1 := sum_vector (pairLoss X N E R W)
  have h2 := sum_vector fun b => excess (row E b)
  have h3 := sum_vector fun b => tilt (row W b) (row R b)
  unfold loss orth
  rw [← h1, ← h2, ← h3]
  rfl

end Cert.ReferenceIdeal.Margin

end
-- ==== Proof.Assumption.lean ====
module

public import proofs.«01_k».proof.Defs
public import proofs.«01_k».proof.Proof.Loss
public import Idealize.ShloMosaic.Lib.Affine

@[expose] public section

/-!
The precondition, read.

The precondition compares every row number with zero and with a thousand; it says that all of them are small.
-/

namespace Cert.Margin

open Idealize Idealize.ShloMosaic

/-- The one side condition of the precondition's operations. -/
theorem pre_facts : Cert.Pre_in_head.Facts := ⟨by decide⟩

/-- A word between zero and a thousand, as signed numbers, is small. -/
theorem small_word (x : BitVec 32) (h0 : IntOp.cmpi .sge x 0#32 = 1#1) (h1 : IntOp.cmpi .slt x 1000#32 = 1#1) : x.toNat < 1000 := by
  have h0 := IntOp.cmpi_sge.1 h0
  have h1 := IntOp.cmpi_slt.1 h1
  have e0 : (0#32 : BitVec 32).toInt = 0 := by decide
  have e1 : (1000#32 : BitVec 32).toInt = 1000 := by decide
  rw [e0] at h0
  rw [e1] at h1
  rw [BitVec.toInt_eq_toNat_cond] at h0 h1
  split at h0 <;> omega

/-- The precondition's function is one everywhere exactly when all the row numbers are small. -/
theorem small_of_pre [Cert.Pre_in_head.Facts] (X N : Triples) (E : Table 1000000) (R W : Table 1000)
    (h : Cert.Pre_in_head.fn (F := Ideal) X N E R W = fun _ => 1#1) : Small X ∧ Small N := by
  have key : ∀ (b : Fin 16384) (j : Fin 3), (X (ix2 b j)).toNat < 1000 ∧ (N (ix2 b j)).toNat < 1000 := by
    intro b j
    have e := congrFun h (ix2 b j)
    have e' : IntOp.andi (IntOp.andi (IntOp.andi (IntOp.cmpi .sge (X (ix2 b j)) 0#32) (IntOp.cmpi .slt (X (ix2 b j)) 1000#32))
        (IntOp.cmpi .sge (N (ix2 b j)) 0#32)) (IntOp.cmpi .slt (N (ix2 b j)) 1000#32) = 1#1 := e
    obtain ⟨e1, e2⟩ := IntOp.andi_eq_one.1 e'
    obtain ⟨e3, e4⟩ := IntOp.andi_eq_one.1 e1
    obtain ⟨e5, e6⟩ := IntOp.andi_eq_one.1 e3
    exact ⟨small_word _ e5 e6, small_word _ e4 e2⟩
  exact ⟨fun b j => (key b j).1, fun b j => (key b j).2⟩

end Cert.Margin

end
-- ==== Proof.Values.lean ====
module

public import proofs.«01_k».proof.Proof.Result
public import proofs.«01_k».proof.Proof.RefValue
public import proofs.«01_k».proof.Proof.Assumption
public import proofs.«01_k».proof.Proof.Gen.ReferenceIdeal.Run

@[expose] public section

/-!
The value claim.

Under the precondition both programs end with the loss of the arguments, and with the arguments unchanged.
-/

set_option maxRecDepth 16384

namespace Cert.Margin

open Idealize Idealize.ShloMosaic Idealize.SL.Sem

/-- The reference's run, with its result read. -/
theorem reference_run (m : (ℓ : Loc Cert.ReferenceIdeal.nD Cert.ReferenceIdeal.τ Cert.ReferenceIdeal.sig) → Buf (Elt Ideal) ℓ)
    (ρ : Dev Cert.ReferenceIdeal.nD → PrngReg)
    (X N : Dev Cert.ReferenceIdeal.nD → Triples) (E : Dev Cert.ReferenceIdeal.nD → Table 1000000)
    (R W : Dev Cert.ReferenceIdeal.nD → Table 1000) (hX : ∀ c, Small (X c)) (hN : ∀ c, Small (N c))
    (h0 : ∀ c : Dev Cert.ReferenceIdeal.nD, m ((c.tc : Thread Cert.ReferenceIdeal.nD Cert.ReferenceIdeal.τ).loc Cert.ReferenceIdeal.main_arg0) = X c)
    (h1 : ∀ c : Dev Cert.ReferenceIdeal.nD, m ((c.tc : Thread Cert.ReferenceIdeal.nD Cert.ReferenceIdeal.τ).loc Cert.ReferenceIdeal.main_arg1) = N c)
    (h2 : ∀ c : Dev Cert.ReferenceIdeal.nD, m ((c.tc : Thread Cert.ReferenceIdeal.nD Cert.ReferenceIdeal.τ).loc Cert.ReferenceIdeal.main_arg2) = E c)
    (h3 : ∀ c : Dev Cert.ReferenceIdeal.nD, m ((c.tc : Thread Cert.ReferenceIdeal.nD Cert.ReferenceIdeal.τ).loc Cert.ReferenceIdeal.main_arg3) = R c)
    (h4 : ∀ c : Dev Cert.ReferenceIdeal.nD, m ((c.tc : Thread Cert.ReferenceIdeal.nD Cert.ReferenceIdeal.τ).loc Cert.ReferenceIdeal.main_arg4) = W c) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v89)
          = fun _ => loss (X c) (N c) (E c) (R c) (W c) := by
  refine (θ_run (Cert.ReferenceIdeal.defs (F := Ideal)) _ _).mono (fun r h c => ?_) (Cert.ReferenceIdeal.Value.run (F := Ideal) m ρ)
  refine (h c).1.trans ((Cert.ReferenceIdeal.Read.val_main_v89_eq (F := Ideal) (StableHlo.launchContents m c)).trans (funext fun i => ?_))
  have a0 : StableHlo.launchContents m c (Proc.devRef .tc Cert.ReferenceIdeal.main_arg0) = X c := h0 c
  have a1 : StableHlo.launchContents m c (Proc.devRef .tc Cert.ReferenceIdeal.main_arg1) = N c := h1 c
  have a2 : StableHlo.launchContents m c (Proc.devRef .tc Cert.ReferenceIdeal.main_arg2) = E c := h2 c
  have a3 : StableHlo.launchContents m c (Proc.devRef .tc Cert.ReferenceIdeal.main_arg3) = R c := h3 c
  have a4 : StableHlo.launchContents m c (Proc.devRef .tc Cert.ReferenceIdeal.main_arg4) = W c := h4 c
  rw [a0, a1, a2, a3, a4]
  exact Cert.ReferenceIdeal.Margin.result (X c) (N c) (hX c) (hN c) (E c) (R c) (W c) i

/-- Kernel and reference end with equal results. -/
theorem equal_results : @Cert.algebraic_KernelIdeal_ReferenceIdeal_pre_in_head Cert.KernelIdeal.Gen.facts Cert.ReferenceIdeal.Gen.facts pre_facts := by
  intro m g m' g' hp ha
  have small := fun c => @small_of_pre pre_facts _ _ _ _ _ (hp c)
  have hX := fun c => (small c).1
  have hN := fun c => (small c).2
  refine ⟨fun c => fun _ => loss (Cert.KernelIdeal.Margin.argX m c) (Cert.KernelIdeal.Margin.argN m c) (Cert.KernelIdeal.Margin.argE m c)
    (Cert.KernelIdeal.Margin.argR m c) (Cert.KernelIdeal.Margin.argW m c), ?_, ?_⟩
  · exact (θ_run _ _ _).mono (fun r h c => ⟨h.1 c, h.2 c⟩)
      (θ_run_and (Cert.KernelIdeal.Margin.run_value m g hX hN) (Cert.KernelIdeal.Gen.unchanged m g))
  · exact (θ_run _ _ _).mono (fun r h c => ⟨h.1 c, (h.2 c).2⟩)
      (θ_run_and (reference_run m' g' _ _ _ _ _ hX hN (fun c => (ha c).1) (fun c => (ha c).2.1) (fun c => (ha c).2.2.1)
        (fun c => (ha c).2.2.2.1) (fun c => (ha c).2.2.2.2)) (Cert.ReferenceIdeal.Value.run m' g'))

end Cert.Margin

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefFrame
public import proofs.«01_k».proof.Proof.Values
public import Idealize.ShloMosaic.Adequacy
public import Idealize.ShloMosaic.Init

@[expose] public section

namespace Cert.Proof

open Idealize.ShloMosaic Idealize.SL.Sem

theorem claim : Cert.Claim :=
  ⟨Cert.Kernel.Gen.facts, Cert.KernelIdeal.Gen.facts, Cert.ReferenceIdeal.Gen.facts, Cert.Margin.pre_facts,
    fun m ρ _ => Cert.Kernel.Gen.frame m ρ, fun m ρ _ => Cert.KernelIdeal.Gen.frame m ρ,
    fun m ρ _ => Cert.KernelIdeal.Gen.frame m ρ, fun m ρ _ => Cert.Margin.reference_frame m ρ,
    fun m ρ _ => Cert.Margin.reference_frame m ρ, trivial, Cert.Margin.equal_results⟩

end Cert.Proof

end
